-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_InKernel_InKernelIdeal : Prop :=
  True

def algebraic_InKernelIdeal_InReferenceIdeal [hInKernelIdeal : Cert.InKernelIdeal.Facts] [hInReferenceIdeal : Cert.InReferenceIdeal.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InKernelIdeal m →
    (∀ c : Dev Cert.InKernelIdeal.nD,
      m' ((c.tc : Thread Cert.InReferenceIdeal.nD Cert.InReferenceIdeal.τ).loc Cert.InReferenceIdeal.main_arg0) = m ((c.tc : Thread Cert.InKernelIdeal.nD Cert.InKernelIdeal.τ).loc Cert.InKernelIdeal.main_arg0)
      ∧ m' ((c.tc : Thread Cert.InReferenceIdeal.nD Cert.InReferenceIdeal.τ).loc Cert.InReferenceIdeal.main_arg1) = m ((c.tc : Thread Cert.InKernelIdeal.nD Cert.InKernelIdeal.τ).loc Cert.InKernelIdeal.main_arg1)
      ∧ m' ((c.tc : Thread Cert.InReferenceIdeal.nD Cert.InReferenceIdeal.τ).loc Cert.InReferenceIdeal.main_arg2) = m ((c.tc : Thread Cert.InKernelIdeal.nD Cert.InKernelIdeal.τ).loc Cert.InKernelIdeal.main_arg2)) →
    ∃ (v0 : (c : Dev Cert.InKernelIdeal.nD) → Buf (Elt Ideal) ((c.tc : Thread Cert.InKernelIdeal.nD Cert.InKernelIdeal.τ).loc Cert.InKernelIdeal.main_v2_0)) (v1 : (c : Dev Cert.InKernelIdeal.nD) → Buf (Elt Ideal) ((c.tc : Thread Cert.InKernelIdeal.nD Cert.InKernelIdeal.τ).loc Cert.InKernelIdeal.main_v2_1)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v2_0) = v0 c
          ∧ r.2.mem ((c.tc : Thread Cert.InKernelIdeal.nD Cert.InKernelIdeal.τ).loc Cert.InKernelIdeal.main_v2_1) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v16) = v0 c
          ∧ r.2.mem ((c.tc : Thread Cert.InReferenceIdeal.nD Cert.InReferenceIdeal.τ).loc Cert.InReferenceIdeal.main_v18) = v1 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def Claim : Prop :=
  ∃ (hKernel : Cert.Kernel.Facts) (hKernelIdeal : Cert.KernelIdeal.Facts) (hReferenceIdeal : Cert.ReferenceIdeal.Facts) (hInKernel : Cert.InKernel.Facts) (hInKernelIdeal : Cert.InKernelIdeal.Facts) (hInReferenceIdeal : Cert.InReferenceIdeal.Facts) (hFfnKernel : Cert.FfnKernel.Facts) (hFfnKernelIdeal : Cert.FfnKernelIdeal.Facts) (hFfnReferenceIdeal : Cert.FfnReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InKernel (hInKernel := hInKernel)
    ∧ quiescent_InKernelIdeal (hInKernelIdeal := hInKernelIdeal)
    ∧ quiescent_InReferenceIdeal (hInReferenceIdeal := hInReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InKernel_InKernelIdeal
    ∧ algebraic_InKernelIdeal_InReferenceIdeal (hInKernelIdeal := hInKernelIdeal) (hInReferenceIdeal := hInReferenceIdeal)
    ∧ preserves_FfnKernel_FfnKernelIdeal
    ∧ algebraic_FfnKernelIdeal_FfnReferenceIdeal (hFfnKernelIdeal := hFfnKernelIdeal) (hFfnReferenceIdeal := hFfnReferenceIdeal)
-- ==== Pre_finite.lean ====
abbrev S32768x5888 : Shape := ⟨2, ![32768, 5888]⟩
abbrev S32768x1024 : Shape := ⟨2, ![32768, 1024]⟩
abbrev S8 : Shape := ⟨1, ![8]⟩
abbrev S1024 : Shape := ⟨1, ![1024]⟩
abbrev S512x1024 : Shape := ⟨2, ![512, 1024]⟩
abbrev S1024x1024 : Shape := ⟨2, ![1024, 1024]⟩
abbrev S32768x640 : Shape := ⟨2, ![32768, 640]⟩
abbrev S_ : Shape := ⟨0, ![]⟩

class Facts : Prop where
  bitsLt_bf16_f32 : FTy.bits .bf16 < FTy.bits .f32
  slices_S32768x5888_S32768x640_0_0 : S32768x5888.Slices ![0, 0] S32768x640
  bcast_S_S32768x640 : S_.BroadcastsInDim S32768x640 (![] : Fin 0 → Fin S32768x640.rank)
  bcast_S_S8 : S_.BroadcastsInDim S8 (![] : Fin 0 → Fin S8.rank)

variable [Facts]

def fn {F : FTy → Type} [FloatOps F] (main_arg0 : FVec F S32768x5888 .bf16) (main_arg1 : FVec F S32768x1024 .f32) (main_arg2 : FVec F S8 .f32) (main_arg3 : FVec F S1024 .f32) (main_arg4 : FVec F S512x1024 .f32) (main_arg5 : FVec F S1024x1024 .f32) (main_arg6 : FVec F S1024x1024 .f32) : IVec S32768x640 1 × IVec S8 1 :=
  let main_v0 : FVec F S32768x5888 .f32 := (extf .f32 · bitsLt_bf16_f32) main_arg0
  let main_v1 : FVec F S32768x640 .f32 := (extractStridedSlice S32768x640 ![0, 0] · slices_S32768x5888_S32768x640_0_0) main_v0
  let main_v2 : FVec F S32768x640 .f32 := Host.absf main_v1
  let main_cst : FVec F S_ .f32 := constant S_ .f32 0x7F800000#32
  let main_v3 : FVec F S32768x640 .f32 := broadcastInDim S32768x640 ![] bcast_S_S32768x640 main_cst
  let main_v4 : IVec S32768x640 1 := cmpf .olt main_v2 main_v3
  let main_cst_0 : FVec F S_ .f32 := constant S_ .f32 0x7F800000#32
  let main_v5 : FVec F S8 .f32 := broadcastInDim S8 ![] bcast_S_S8 main_cst_0
  let main_v6 : IVec S8 1 := cmpf .olt main_arg2 main_v5
  (main_v4, main_v6)
-- ==== Kernel.lean ====
abbrev S32768x5888 : Shape := ⟨2, ![32768, 5888]⟩
abbrev S32768x1024 : Shape := ⟨2, ![32768, 1024]⟩
abbrev S8 : Shape := ⟨1, ![8]⟩
abbrev S1024 : Shape := ⟨1, ![1024]⟩
abbrev S512x1024 : Shape := ⟨2, ![512, 1024]⟩
abbrev S1024x1024 : Shape := ⟨2, ![1024, 1024]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S1x128x256 : Shape := ⟨3, ![1, 128, 256]⟩
abbrev S8x1x1 : Shape := ⟨3, ![8, 1, 1]⟩
abbrev S8x128x256 : Shape := ⟨3, ![8, 128, 256]⟩
abbrev S2x512x256 : Shape := ⟨3, ![2, 512, 256]⟩
abbrev S4 : Shape := ⟨1, ![4]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S32768x256 : Shape := ⟨2, ![32768, 256]⟩
abbrev S2x4 : Shape := ⟨2, ![2, 4]⟩
abbrev S2x4x128 : Shape := ⟨3, ![2, 4, 128]⟩
abbrev S2x512 : Shape := ⟨2, ![2, 512]⟩
abbrev S2x512x1 : Shape := ⟨3, ![2, 512, 1]⟩
abbrev S1x1024 : Shape := ⟨2, ![1, 1024]⟩
abbrev S512x5888 : Shape := ⟨2, ![512, 5888]⟩
abbrev S4x128x256 : Shape := ⟨3, ![4, 128, 256]⟩
abbrev S512x512 : Shape := ⟨2, ![512, 512]⟩
abbrev S256x256 : Shape := ⟨2, ![256, 256]⟩
abbrev S128x512 : Shape := ⟨2, ![128, 512]⟩
abbrev S128x64 : Shape := ⟨2, ![128, 64]⟩
abbrev S512x64 : Shape := ⟨2, ![512, 64]⟩
abbrev S256x64 : Shape := ⟨2, ![256, 64]⟩
abbrev S512x256 : Shape := ⟨2, ![512, 256]⟩
abbrev S1x512x256 : Shape := ⟨3, ![1, 512, 256]⟩
abbrev S1x512x1 : Shape := ⟨3, ![1, 512, 1]⟩
abbrev S512x1 : Shape := ⟨2, ![512, 1]⟩
abbrev S512 : Shape := ⟨1, ![512]⟩
abbrev S1x128x1 : Shape := ⟨3, ![1, 128, 1]⟩
abbrev S1 : Shape := ⟨1, ![1]⟩

abbrev nBuf : Space → Nat
  | .hbm => 136
  | .vmem => 21
  | .smem => 1
  | _ => 0

abbrev hbmTy0_0 (i : Nat) : BufTy := match i % 128 with
  | 0 => ⟨S32768x5888, .bf16⟩
  | 1 => ⟨S32768x1024, .f32⟩
  | 2 => ⟨S8, .f32⟩
  | 3 => ⟨S1024, .f32⟩
  | 4 => ⟨S512x1024, .f32⟩
  | 5 => ⟨S1024x1024, .f32⟩
  | 6 => ⟨S1024x1024, .f32⟩
  | 7 => ⟨S128, .i32⟩
  | 8 => ⟨S128x1, .i32⟩
  | 9 => ⟨S256, .i32⟩
  | 10 => ⟨S1x256, .i32⟩
  | 11 => ⟨S_, .i32⟩
  | 12 => ⟨S128x1, .i32⟩
  | 13 => ⟨S128x1, .i32⟩
  | 14 => ⟨S128x256, .i32⟩
  | 15 => ⟨S128x256, .i32⟩
  | 16 => ⟨S128x256, .i32⟩
  | 17 => ⟨S_, .i32⟩
  | 18 => ⟨S128x256, .i32⟩
  | 19 => ⟨S128x256, .i1⟩
  | 20 => ⟨S_, .i32⟩
  | 21 => ⟨S128x256, .i32⟩
  | 22 => ⟨S128x256, .i1⟩
  | 23 => ⟨S128x256, .i1⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S_, .f32⟩
  | 35 => ⟨S8, .f32⟩
  | 36 => ⟨S8, .f32⟩
  | 37 => ⟨S8, .f32⟩
  | 38 => ⟨S1x128x256, .i1⟩
  | 39 => ⟨S8x1x1, .f32⟩
  | 40 => ⟨S8x1x1, .f32⟩
  | 41 => ⟨S128x256, .f32⟩
  | 42 => ⟨S1x128x256, .f32⟩
  | 43 => ⟨S8x128x256, .f32⟩
  | 44 => ⟨S8x128x256, .f32⟩
  | 45 => ⟨S8x128x256, .f32⟩
  | 46 => ⟨S_, .f32⟩
  | 47 => ⟨S_, .f32⟩
  | 48 => ⟨S8x128x256, .i1⟩
  | 49 => ⟨S8x128x256, .f32⟩
  | 50 => ⟨S8x128x256, .f32⟩
  | 51 => ⟨S2x512x256, .f32⟩
  | 52 => ⟨S_, .i32⟩
  | 53 => ⟨S1x256, .i32⟩
  | 54 => ⟨S1x256, .i1⟩
  | 55 => ⟨S_, .f32⟩
  | 56 => ⟨S_, .f32⟩
  | 57 => ⟨S1x256, .f32⟩
  | 58 => ⟨S1x256, .f32⟩
  | 59 => ⟨S1x256, .f32⟩
  | 60 => ⟨S1x256, .f32⟩
  | 61 => ⟨S4, .f32⟩
  | 62 => ⟨S_, .f32⟩
  | 63 => ⟨S4, .f32⟩
  | 64 => ⟨S4, .f32⟩
  | 65 => ⟨S_, .f32⟩
  | 66 => ⟨S4, .f32⟩
  | 67 => ⟨S4, .f32⟩
  | 68 => ⟨S4, .f32⟩
  | 69 => ⟨S_, .f32⟩
  | 70 => ⟨S4, .f32⟩
  | 71 => ⟨S4, .f32⟩
  | 72 => ⟨S4, .f32⟩
  | 73 => ⟨S128, .f32⟩
  | 74 => ⟨S128x1, .f32⟩
  | 75 => ⟨S1x128, .f32⟩
  | 76 => ⟨S128x128, .f32⟩
  | 77 => ⟨S128x128, .f32⟩
  | 78 => ⟨S128x128, .f32⟩
  | 79 => ⟨S_, .f32⟩
  | 80 => ⟨S128x128, .f32⟩
  | 81 => ⟨S128x128, .i1⟩
  | 82 => ⟨S4x1x1, .f32⟩
  | 83 => ⟨S_, .f32⟩
  | 84 => ⟨S128x128, .f32⟩
  | 85 => ⟨S128x128, .f32⟩
  | 86 => ⟨S1x128x128, .f32⟩
  | 87 => ⟨S4x128x128, .f32⟩
  | 88 => ⟨S4x128x128, .f32⟩
  | 89 => ⟨S4x128x128, .f32⟩
  | 90 => ⟨S4x128x128, .f32⟩
  | 91 => ⟨S_, .f32⟩
  | 92 => ⟨S_, .f32⟩
  | 93 => ⟨S4x128x128, .i1⟩
  | 94 => ⟨S4x128x128, .f32⟩
  | 95 => ⟨S4x128x128, .f32⟩
  | 96 => ⟨S_, .f32⟩
  | 97 => ⟨S4x128x128, .f32⟩
  | 98 => ⟨S4x128x128, .f32⟩
  | 99 => ⟨S4x1, .f32⟩
  | 100 => ⟨S_, .f32⟩
  | 101 => ⟨S128, .f32⟩
  | 102 => ⟨S128, .f32⟩
  | 103 => ⟨S1x128, .f32⟩
  | 104 => ⟨S4x128, .f32⟩
  | 105 => ⟨S4x128, .f32⟩
  | 106 => ⟨S4x128, .f32⟩
  | 107 => ⟨S4x128, .f32⟩
  | 108 => ⟨S4x128x1, .f32⟩
  | 109 => ⟨S4x1, .f32⟩
  | 110 => ⟨S_, .f32⟩
  | 111 => ⟨S128, .f32⟩
  | 112 => ⟨S128, .f32⟩
  | 113 => ⟨S1x128, .f32⟩
  | 114 => ⟨S4x128, .f32⟩
  | 115 => ⟨S4x128, .f32⟩
  | 116 => ⟨S4x128, .f32⟩
  | 117 => ⟨S4x128, .f32⟩
  | 118 => ⟨S_, .f32⟩
  | 119 => ⟨S4x128, .f32⟩
  | 120 => ⟨S4x128, .f32⟩
  | 121 => ⟨S4x128x1, .f32⟩
  | 122 => ⟨S_, .f32⟩
  | 123 => ⟨S4, .f32⟩
  | 124 => ⟨S4, .f32⟩
  | 125 => ⟨S4, .f32⟩
  | 126 => ⟨S32768x256, .bf16⟩
  | 127 => ⟨S2x4, .f32⟩
  | _ => ⟨S32768x5888, .bf16⟩

abbrev hbmTy0_1 (i : Nat) : BufTy := match i % 128 with
  | 0 => ⟨S2x4x128, .f32⟩
  | 1 => ⟨S2x512, .f32⟩
  | 2 => ⟨S2x512x1, .f32⟩
  | 3 => ⟨S1x1024, .f32⟩
  | 4 => ⟨S512x1024, .bf16⟩
  | 5 => ⟨S1024x1024, .bf16⟩
  | 6 => ⟨S1024x1024, .bf16⟩
  | 7 => ⟨S32768x1024, .f32⟩
  | _ => ⟨S32768x5888, .bf16⟩

abbrev hbmTy (i : Nat) : BufTy := match i / 128 with
  | 0 => hbmTy0_0 i
  | 1 => hbmTy0_1 i
  | _ => ⟨S32768x5888, .bf16⟩

abbrev bufTy : (tb : Table) → Fin (tcTables nBuf tb) → BufTy
  | .hbm, ⟨i, _⟩ => hbmTy i
  | .local _ .vmem, ⟨0, _⟩ => ⟨S512x5888, .bf16⟩
  | .local _ .vmem, ⟨1, _⟩ => ⟨S512x5888, .bf16⟩
  | .local _ .vmem, ⟨2, _⟩ => ⟨S128x256, .bf16⟩
  | .local _ .vmem, ⟨3, _⟩ => ⟨S128x256, .bf16⟩
  | .local _ .vmem, ⟨4, _⟩ => ⟨S512x1024, .f32⟩
  | .local _ .vmem, ⟨5, _⟩ => ⟨S512x1024, .f32⟩
  | .local _ .vmem, ⟨6, _⟩ => ⟨S2x512x256, .f32⟩
  | .local _ .vmem, ⟨7, _⟩ => ⟨S1x256, .f32⟩
  | .local _ .vmem, ⟨8, _⟩ => ⟨S2x512x1, .f32⟩
  | .local _ .vmem, ⟨9, _⟩ => ⟨S4x128x128, .f32⟩
  | .local _ .vmem, ⟨10, _⟩ => ⟨S4x128x1, .f32⟩
  | .local _ .vmem, ⟨11, _⟩ => ⟨S4x128x1, .f32⟩
  | .local _ .vmem, ⟨12, _⟩ => ⟨S1x1024, .f32⟩
  | .local _ .vmem, ⟨13, _⟩ => ⟨S512x1024, .bf16⟩
  | .local _ .vmem, ⟨14, _⟩ => ⟨S1024x1024, .bf16⟩
  | .local _ .vmem, ⟨15, _⟩ => ⟨S1024x1024, .bf16⟩
  | .local _ .vmem, ⟨16, _⟩ => ⟨S512x1024, .f32⟩
  | .local _ .vmem, ⟨17, _⟩ => ⟨S512x1024, .f32⟩
  | .local _ .vmem, ⟨18, _⟩ => ⟨S4x128x256, .f32⟩
  | .local _ .vmem, ⟨19, _⟩ => ⟨S512x512, .bf16⟩
  | .local _ .vmem, ⟨20, _⟩ => ⟨S512x1024, .bf16⟩
  | .local _ .smem, ⟨0, _⟩ => ⟨S4, .f32⟩
  | _, _ => ⟨S32768x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_0 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_9 : Ref sig .tc := ⟨.hbm, 62, rfl⟩
abbrev main_v39 : Ref sig .tc := ⟨.hbm, 63, rfl⟩
abbrev main_v40 : Ref sig .tc := ⟨.hbm, 64, rfl⟩
abbrev main_cst_10 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_11 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_cst_12 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_call2_v0 : Ref sig .tc := ⟨.hbm, 92, rfl⟩
abbrev main_call2_v1 : Ref sig .tc := ⟨.hbm, 93, rfl⟩
abbrev main_call2_v2 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_17 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_18 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_cst_19 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c4_i32_0 : BitVec 32 := 4#32
  let v2 : BitVec 32 := Scalar.muli v1 c4_i32_0
  let c1_i32 : BitVec 32 := 1#32
  let v3 : BitVec 32 := Scalar.subi v2 c1_i32
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x5888 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .smem S4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S32768x5888 : Shape := ⟨2, ![32768, 5888]⟩
abbrev S32768x1024 : Shape := ⟨2, ![32768, 1024]⟩
abbrev S8 : Shape := ⟨1, ![8]⟩
abbrev S1024 : Shape := ⟨1, ![1024]⟩
abbrev S512x1024 : Shape := ⟨2, ![512, 1024]⟩
abbrev S1024x1024 : Shape := ⟨2, ![1024, 1024]⟩
abbrev S16x2048x5888 : Shape := ⟨3, ![16, 2048, 5888]⟩
abbrev S16x2048x512 : Shape := ⟨3, ![16, 2048, 512]⟩
abbrev S16x2048x128 : Shape := ⟨3, ![16, 2048, 128]⟩
abbrev S16x2048x1024 : Shape := ⟨3, ![16, 2048, 1024]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S128x4 : Shape := ⟨2, ![128, 4]⟩
abbrev S1x128x4x1 : Shape := ⟨4, ![1, 128, 4, 1]⟩
abbrev S1x4x1x1 : Shape := ⟨4, ![1, 4, 1, 1]⟩
abbrev S16x16x128x4x128 : Shape := ⟨5, ![16, 16, 128, 4, 128]⟩
abbrev S16x16x128x4x256 : Shape := ⟨5, ![16, 16, 128, 4, 256]⟩
abbrev S16x4x128x256 : Shape := ⟨4, ![16, 4, 128, 256]⟩
abbrev S1x16x128x4x128 : Shape := ⟨5, ![1, 16, 128, 4, 128]⟩
abbrev S16x128x4x128 : Shape := ⟨4, ![16, 128, 4, 128]⟩
abbrev S1x16x128x4x256 : Shape := ⟨5, ![1, 16, 128, 4, 256]⟩
abbrev S16x128x4x256 : Shape := ⟨4, ![16, 128, 4, 256]⟩
abbrev S16x4x128x128 : Shape := ⟨4, ![16, 4, 128, 128]⟩
abbrev S1x4x128x128 : Shape := ⟨4, ![1, 4, 128, 128]⟩
abbrev S16x4x256x128 : Shape := ⟨4, ![16, 4, 256, 128]⟩
abbrev S16x2048x4x256 : Shape := ⟨4, ![16, 2048, 4, 256]⟩
abbrev S16x16x128x2x4x64 : Shape := ⟨6, ![16, 16, 128, 2, 4, 64]⟩
abbrev S16x2048x2x64 : Shape := ⟨4, ![16, 2048, 2, 64]⟩
abbrev S16x2176x2x64 : Shape := ⟨4, ![16, 2176, 2, 64]⟩
abbrev S16x16x128x2x64 : Shape := ⟨5, ![16, 16, 128, 2, 64]⟩
abbrev S16x16x256x2x64 : Shape := ⟨5, ![16, 16, 256, 2, 64]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4 : Shape := ⟨2, ![2, 4]⟩
abbrev S16x16x2x256x128x4 : Shape := ⟨6, ![16, 16, 2, 256, 128, 4]⟩
abbrev S16x16x2x4x128x256 : Shape := ⟨6, ![16, 16, 2, 4, 128, 256]⟩
abbrev S2x4x1x1 : Shape := ⟨4, ![2, 4, 1, 1]⟩
abbrev S1x1x128x256 : Shape := ⟨4, ![1, 1, 128, 256]⟩
abbrev S2x4x128x256 : Shape := ⟨4, ![2, 4, 128, 256]⟩
abbrev S1x1x2x4x128x256 : Shape := ⟨6, ![1, 1, 2, 4, 128, 256]⟩
abbrev S1x16x1x1x128x256 : Shape := ⟨6, ![1, 16, 1, 1, 128, 256]⟩
abbrev S1x1x2x4x1x1 : Shape := ⟨6, ![1, 1, 2, 4, 1, 1]⟩
abbrev S16x16x2x4x128x1 : Shape := ⟨6, ![16, 16, 2, 4, 128, 1]⟩
abbrev S16x16x2x4x128x257 : Shape := ⟨6, ![16, 16, 2, 4, 128, 257]⟩
abbrev S16x16x2x4x128 : Shape := ⟨5, ![16, 16, 2, 4, 128]⟩
abbrev S16x16x2x64x4x128 : Shape := ⟨6, ![16, 16, 2, 64, 4, 128]⟩
abbrev S16x2048x4 : Shape := ⟨3, ![16, 2048, 4]⟩
abbrev S16x2048x4x1 : Shape := ⟨4, ![16, 2048, 4, 1]⟩
abbrev S1x1x1024 : Shape := ⟨3, ![1, 1, 1024]⟩

abbrev nBuf : Space → Nat
  | .hbm => 336
  | .vmem => 0
  | .smem => 0
  | _ => 0

abbrev hbmTy0_0 (i : Nat) : BufTy := match i % 128 with
  | 0 => ⟨S32768x5888, .bf16⟩
  | 1 => ⟨S32768x1024, .f32⟩
  | 2 => ⟨S8, .f32⟩
  | 3 => ⟨S1024, .f32⟩
  | 4 => ⟨S512x1024, .f32⟩
  | 5 => ⟨S1024x1024, .f32⟩
  | 6 => ⟨S1024x1024, .f32⟩
  | 7 => ⟨S32768x5888, .f32⟩
  | 8 => ⟨S16x2048x5888, .f32⟩
  | 9 => ⟨S16x2048x512, .f32⟩
  | 10 => ⟨S16x2048x128, .f32⟩
  | 11 => ⟨S16x2048x128, .f32⟩
  | 12 => ⟨S16x2048x512, .f32⟩
  | 13 => ⟨S16x2048x512, .f32⟩
  | 14 => ⟨S16x2048x1024, .f32⟩
  | 15 => ⟨S16x2048x1024, .f32⟩
  | 16 => ⟨S16x2048x1024, .f32⟩
  | 17 => ⟨S16x2048x1024, .f32⟩
  | 18 => ⟨S4, .f32⟩
  | 19 => ⟨S_, .f32⟩
  | 20 => ⟨S4, .f32⟩
  | 21 => ⟨S4, .f32⟩
  | 22 => ⟨S_, .f32⟩
  | 23 => ⟨S4, .f32⟩
  | 24 => ⟨S4, .f32⟩
  | 25 => ⟨S4, .f32⟩
  | 26 => ⟨S_, .f32⟩
  | 27 => ⟨S4, .f32⟩
  | 28 => ⟨S4, .f32⟩
  | 29 => ⟨S4, .f32⟩
  | 30 => ⟨S128, .f32⟩
  | 31 => ⟨S128x1, .f32⟩
  | 32 => ⟨S1x128, .f32⟩
  | 33 => ⟨S128x128, .f32⟩
  | 34 => ⟨S128x128, .f32⟩
  | 35 => ⟨S128x128, .f32⟩
  | 36 => ⟨S_, .f32⟩
  | 37 => ⟨S128x128, .f32⟩
  | 38 => ⟨S128x128, .i1⟩
  | 39 => ⟨S4x1x1, .f32⟩
  | 40 => ⟨S_, .f32⟩
  | 41 => ⟨S128x128, .f32⟩
  | 42 => ⟨S128x128, .f32⟩
  | 43 => ⟨S1x128x128, .f32⟩
  | 44 => ⟨S4x128x128, .f32⟩
  | 45 => ⟨S4x128x128, .f32⟩
  | 46 => ⟨S4x128x128, .f32⟩
  | 47 => ⟨S4x128x128, .f32⟩
  | 48 => ⟨S_, .f32⟩
  | 49 => ⟨S_, .f32⟩
  | 50 => ⟨S4x128x128, .i1⟩
  | 51 => ⟨S4x128x128, .f32⟩
  | 52 => ⟨S4x128x128, .f32⟩
  | 53 => ⟨S4x1, .f32⟩
  | 54 => ⟨S_, .f32⟩
  | 55 => ⟨S128, .f32⟩
  | 56 => ⟨S128, .f32⟩
  | 57 => ⟨S1x128, .f32⟩
  | 58 => ⟨S4x128, .f32⟩
  | 59 => ⟨S4x128, .f32⟩
  | 60 => ⟨S4x128, .f32⟩
  | 61 => ⟨S4x128, .f32⟩
  | 62 => ⟨S128x4, .f32⟩
  | 63 => ⟨S1x128x4x1, .f32⟩
  | 64 => ⟨S4x1, .f32⟩
  | 65 => ⟨S_, .f32⟩
  | 66 => ⟨S128, .f32⟩
  | 67 => ⟨S128, .f32⟩
  | 68 => ⟨S1x128, .f32⟩
  | 69 => ⟨S4x128, .f32⟩
  | 70 => ⟨S4x128, .f32⟩
  | 71 => ⟨S4x128, .f32⟩
  | 72 => ⟨S4x128, .f32⟩
  | 73 => ⟨S128x4, .f32⟩
  | 74 => ⟨S1x128x4x1, .f32⟩
  | 75 => ⟨S_, .f32⟩
  | 76 => ⟨S4, .f32⟩
  | 77 => ⟨S4, .f32⟩
  | 78 => ⟨S4, .f32⟩
  | 79 => ⟨S1x4x1x1, .f32⟩
  | 80 => ⟨S16x16x128x4x128, .f32⟩
  | 81 => ⟨S16x16x128x4x128, .f32⟩
  | 82 => ⟨S_, .f32⟩
  | 83 => ⟨S16x2048x512, .f32⟩
  | 84 => ⟨S16x2048x512, .f32⟩
  | 85 => ⟨S16x16x128x4x128, .f32⟩
  | 86 => ⟨S16x16x128x4x128, .f32⟩
  | 87 => ⟨S16x16x128x4x256, .f32⟩
  | 88 => ⟨S16x16x128x4x256, .f32⟩
  | 89 => ⟨S_, .f32⟩
  | 90 => ⟨S16x4x128x256, .f32⟩
  | 91 => ⟨S_, .f32⟩
  | 92 => ⟨S16x16x128x4x256, .f32⟩
  | 93 => ⟨S_, .i32⟩
  | 94 => ⟨S16x16x128x4x128, .f32⟩
  | 95 => ⟨S16x16x128x4x128, .f32⟩
  | 96 => ⟨S16x16x128x4x256, .f32⟩
  | 97 => ⟨S4x128x128, .f32⟩
  | 98 => ⟨S1x128x4x1, .f32⟩
  | 99 => ⟨S1x4x1x1, .f32⟩
  | 100 => ⟨S1x128x4x1, .f32⟩
  | 101 => ⟨S_, .i32⟩
  | 102 => ⟨S16x4x128x256, .f32⟩
  | 103 => ⟨S16x16x128x4x256, .f32⟩
  | 104 => ⟨S_, .i32⟩
  | 105 => ⟨S_, .i1⟩
  | 106 => ⟨S_, .i32⟩
  | 107 => ⟨S_, .i32⟩
  | 108 => ⟨S_, .i32⟩
  | 109 => ⟨S_, .i32⟩
  | 110 => ⟨S1x16x128x4x128, .f32⟩
  | 111 => ⟨S16x128x4x128, .f32⟩
  | 112 => ⟨S_, .i32⟩
  | 113 => ⟨S_, .i32⟩
  | 114 => ⟨S_, .i32⟩
  | 115 => ⟨S_, .i32⟩
  | 116 => ⟨S1x16x128x4x128, .f32⟩
  | 117 => ⟨S16x128x4x128, .f32⟩
  | 118 => ⟨S_, .i32⟩
  | 119 => ⟨S_, .i32⟩
  | 120 => ⟨S_, .i32⟩
  | 121 => ⟨S_, .i32⟩
  | 122 => ⟨S1x16x128x4x256, .f32⟩
  | 123 => ⟨S16x128x4x256, .f32⟩
  | 124 => ⟨S16x4x128x128, .f32⟩
  | 125 => ⟨S1x4x128x128, .f32⟩
  | 126 => ⟨S16x4x128x128, .f32⟩
  | 127 => ⟨S16x4x128x128, .f32⟩
  | _ => ⟨S32768x5888, .bf16⟩

abbrev hbmTy0_1 (i : Nat) : BufTy := match i % 128 with
  | 0 => ⟨S16x4x256x128, .f32⟩
  | 1 => ⟨S16x128x4x256, .f32⟩
  | 2 => ⟨S16x4x256x128, .f32⟩
  | 3 => ⟨S16x128x4x256, .f32⟩
  | 4 => ⟨S16x128x4x256, .f32⟩
  | 5 => ⟨S16x128x4x256, .f32⟩
  | 6 => ⟨S16x128x4x256, .f32⟩
  | 7 => ⟨S16x4x128x256, .f32⟩
  | 8 => ⟨S16x4x128x256, .f32⟩
  | 9 => ⟨S16x128x4x128, .f32⟩
  | 10 => ⟨S16x128x4x128, .f32⟩
  | 11 => ⟨S16x4x128x256, .f32⟩
  | 12 => ⟨S16x4x128x256, .f32⟩
  | 13 => ⟨S1x16x128x4x256, .f32⟩
  | 14 => ⟨S_, .i32⟩
  | 15 => ⟨S_, .i32⟩
  | 16 => ⟨S_, .i32⟩
  | 17 => ⟨S_, .i32⟩
  | 18 => ⟨S16x16x128x4x256, .f32⟩
  | 19 => ⟨S_, .i32⟩
  | 20 => ⟨S_, .i32⟩
  | 21 => ⟨S16x16x128x4x256, .f32⟩
  | 22 => ⟨S16x2048x4x256, .f32⟩
  | 23 => ⟨S32768x5888, .f32⟩
  | 24 => ⟨S16x2048x5888, .f32⟩
  | 25 => ⟨S16x2048x512, .f32⟩
  | 26 => ⟨S16x2048x128, .f32⟩
  | 27 => ⟨S16x2048x128, .f32⟩
  | 28 => ⟨S16x2048x512, .f32⟩
  | 29 => ⟨S16x2048x512, .f32⟩
  | 30 => ⟨S16x2048x1024, .f32⟩
  | 31 => ⟨S16x2048x1024, .f32⟩
  | 32 => ⟨S16x2048x1024, .f32⟩
  | 33 => ⟨S16x2048x1024, .f32⟩
  | 34 => ⟨S16x16x128x2x4x64, .f32⟩
  | 35 => ⟨S_, .f32⟩
  | 36 => ⟨S16x16x128x2x4x64, .f32⟩
  | 37 => ⟨S16x16x128x2x4x64, .f32⟩
  | 38 => ⟨S16x2048x2x64, .f32⟩
  | 39 => ⟨S_, .i32⟩
  | 40 => ⟨S_, .f32⟩
  | 41 => ⟨S16x2176x2x64, .f32⟩
  | 42 => ⟨S16x2048x2x64, .f32⟩
  | 43 => ⟨S16x16x128x2x64, .f32⟩
  | 44 => ⟨S16x2048x2x64, .f32⟩
  | 45 => ⟨S16x16x128x2x64, .f32⟩
  | 46 => ⟨S16x16x256x2x64, .f32⟩
  | 47 => ⟨S16x2048x2x64, .f32⟩
  | 48 => ⟨S_, .i32⟩
  | 49 => ⟨S_, .f32⟩
  | 50 => ⟨S16x2176x2x64, .f32⟩
  | 51 => ⟨S16x2048x2x64, .f32⟩
  | 52 => ⟨S16x16x128x2x64, .f32⟩
  | 53 => ⟨S16x2048x2x64, .f32⟩
  | 54 => ⟨S16x16x128x2x64, .f32⟩
  | 55 => ⟨S16x16x256x2x64, .f32⟩
  | 56 => ⟨S128, .i32⟩
  | 57 => ⟨S128x1, .i32⟩
  | 58 => ⟨S256, .i32⟩
  | 59 => ⟨S1x256, .i32⟩
  | 60 => ⟨S_, .i32⟩
  | 61 => ⟨S128x1, .i32⟩
  | 62 => ⟨S128x1, .i32⟩
  | 63 => ⟨S128x256, .i32⟩
  | 64 => ⟨S128x256, .i32⟩
  | 65 => ⟨S128x256, .i32⟩
  | 66 => ⟨S16, .i32⟩
  | 67 => ⟨S16x1x1, .i32⟩
  | 68 => ⟨S_, .i32⟩
  | 69 => ⟨S16x1x1, .i32⟩
  | 70 => ⟨S16x1x1, .i32⟩
  | 71 => ⟨S_, .i32⟩
  | 72 => ⟨S16x1x1, .i32⟩
  | 73 => ⟨S16x1x1, .i32⟩
  | 74 => ⟨S1x1x256, .i32⟩
  | 75 => ⟨S16x1x256, .i32⟩
  | 76 => ⟨S16x1x256, .i32⟩
  | 77 => ⟨S16x1x256, .i32⟩
  | 78 => ⟨S_, .i32⟩
  | 79 => ⟨S128x256, .i32⟩
  | 80 => ⟨S128x256, .i1⟩
  | 81 => ⟨S_, .i32⟩
  | 82 => ⟨S128x256, .i32⟩
  | 83 => ⟨S128x256, .i1⟩
  | 84 => ⟨S128x256, .i1⟩
  | 85 => ⟨S_, .i32⟩
  | 86 => ⟨S16x1x256, .i32⟩
  | 87 => ⟨S16x1x256, .i1⟩
  | 88 => ⟨S1x128x256, .i1⟩
  | 89 => ⟨S16x128x256, .i1⟩
  | 90 => ⟨S16x128x256, .i1⟩
  | 91 => ⟨S16x128x256, .i1⟩
  | 92 => ⟨S8, .f32⟩
  | 93 => ⟨S_, .f32⟩
  | 94 => ⟨S8, .f32⟩
  | 95 => ⟨S8, .f32⟩
  | 96 => ⟨S_, .f32⟩
  | 97 => ⟨S8, .f32⟩
  | 98 => ⟨S8, .f32⟩
  | 99 => ⟨S_, .f32⟩
  | 100 => ⟨S8, .f32⟩
  | 101 => ⟨S8, .f32⟩
  | 102 => ⟨S_, .f32⟩
  | 103 => ⟨S8, .f32⟩
  | 104 => ⟨S8, .f32⟩
  | 105 => ⟨S8, .f32⟩
  | 106 => ⟨S2x4, .f32⟩
  | 107 => ⟨S16x16x2x256x128x4, .f32⟩
  | 108 => ⟨S16x16x2x4x128x256, .f32⟩
  | 109 => ⟨S2x4x1x1, .f32⟩
  | 110 => ⟨S128x256, .f32⟩
  | 111 => ⟨S1x1x128x256, .f32⟩
  | 112 => ⟨S2x4x128x256, .f32⟩
  | 113 => ⟨S2x4x128x256, .f32⟩
  | 114 => ⟨S2x4x128x256, .f32⟩
  | 115 => ⟨S1x1x2x4x128x256, .f32⟩
  | 116 => ⟨S16x16x2x4x128x256, .f32⟩
  | 117 => ⟨S16x16x2x4x128x256, .f32⟩
  | 118 => ⟨S1x16x1x1x128x256, .i1⟩
  | 119 => ⟨S_, .f32⟩
  | 120 => ⟨S_, .f32⟩
  | 121 => ⟨S16x16x2x4x128x256, .i1⟩
  | 122 => ⟨S16x16x2x4x128x256, .f32⟩
  | 123 => ⟨S16x16x2x4x128x256, .f32⟩
  | 124 => ⟨S2x4, .f32⟩
  | 125 => ⟨S1x1x2x4x1x1, .f32⟩
  | 126 => ⟨S16x16x2x4x128x1, .f32⟩
  | 127 => ⟨S16x16x2x4x128x257, .f32⟩
  | _ => ⟨S32768x5888, .bf16⟩

abbrev hbmTy0_2 (i : Nat) : BufTy := match i % 128 with
  | 0 => ⟨S_, .f32⟩
  | 1 => ⟨S16x16x2x4x128, .f32⟩
  | 2 => ⟨S_, .f32⟩
  | 3 => ⟨S16x16x2x4x128, .f32⟩
  | 4 => ⟨S16x16x2x4x128, .f32⟩
  | 5 => ⟨S16x16x2x4x128x1, .f32⟩
  | 6 => ⟨S16x16x2x4x128x257, .f32⟩
  | 7 => ⟨S16x16x2x4x128x257, .f32⟩
  | 8 => ⟨S16x16x2x4x128x257, .f32⟩
  | 9 => ⟨S_, .f32⟩
  | 10 => ⟨S16x16x2x4x128, .f32⟩
  | 11 => ⟨S16x16x2x4x128x1, .f32⟩
  | 12 => ⟨S16x16x2x4x128x257, .f32⟩
  | 13 => ⟨S16x16x2x4x128x257, .f32⟩
  | 14 => ⟨S16x16x2x4x128x256, .f32⟩
  | 15 => ⟨S16x16x2x64x4x128, .f32⟩
  | 16 => ⟨S16x16x128x2x4x64, .f32⟩
  | 17 => ⟨S16x2048x512, .f32⟩
  | 18 => ⟨S_, .f32⟩
  | 19 => ⟨S16x2048x4, .f32⟩
  | 20 => ⟨S16x2048x4x1, .f32⟩
  | 21 => ⟨S_, .f32⟩
  | 22 => ⟨S16x2048x4x1, .f32⟩
  | 23 => ⟨S16x2048x4x1, .f32⟩
  | 24 => ⟨S16x2048x4x256, .f32⟩
  | 25 => ⟨S16x2048x4x256, .f32⟩
  | 26 => ⟨S16x2048x4x256, .f32⟩
  | 27 => ⟨S_, .f32⟩
  | 28 => ⟨S16x2048x4, .f32⟩
  | 29 => ⟨S16x2048x4x1, .f32⟩
  | 30 => ⟨S_, .f32⟩
  | 31 => ⟨S16x2048x4x1, .f32⟩
  | 32 => ⟨S16x2048x4x1, .f32⟩
  | 33 => ⟨S16x2048x4x256, .f32⟩
  | 34 => ⟨S16x2048x4x256, .f32⟩
  | 35 => ⟨S_, .f32⟩
  | 36 => ⟨S16x2048x4x1, .f32⟩
  | 37 => ⟨S16x2048x4x1, .f32⟩
  | 38 => ⟨S16x2048x4x1, .f32⟩
  | 39 => ⟨S16x2048x4x256, .f32⟩
  | 40 => ⟨S16x2048x4x256, .f32⟩
  | 41 => ⟨S16x2048x1024, .f32⟩
  | 42 => ⟨S1x1x1024, .f32⟩
  | 43 => ⟨S16x2048x1024, .f32⟩
  | 44 => ⟨S16x2048x1024, .f32⟩
  | 45 => ⟨S16x2048x1024, .f32⟩
  | 46 => ⟨S16x2048x1024, .f32⟩
  | 47 => ⟨S_, .f32⟩
  | 48 => ⟨S16x2048x1024, .f32⟩
  | 49 => ⟨S16x2048x1024, .f32⟩
  | 50 => ⟨S_, .f32⟩
  | 51 => ⟨S16x2048x1024, .f32⟩
  | 52 => ⟨S16x2048x1024, .f32⟩
  | 53 => ⟨S16x2048x1024, .f32⟩
  | 54 => ⟨S16x2048x1024, .f32⟩
  | 55 => ⟨S16x2048x1024, .f32⟩
  | 56 => ⟨S16x2048x1024, .f32⟩
  | 57 => ⟨S_, .f32⟩
  | 58 => ⟨S16x2048x1024, .f32⟩
  | 59 => ⟨S16x2048x1024, .f32⟩
  | 60 => ⟨S_, .f32⟩
  | 61 => ⟨S16x2048x1024, .f32⟩
  | 62 => ⟨S16x2048x1024, .f32⟩
  | 63 => ⟨S16x2048x1024, .f32⟩
  | 64 => ⟨S16x2048x1024, .f32⟩
  | 65 => ⟨S16x2048x1024, .f32⟩
  | 66 => ⟨S16x2048x1024, .f32⟩
  | 67 => ⟨S_, .f32⟩
  | 68 => ⟨S16x2048x1024, .f32⟩
  | 69 => ⟨S16x2048x1024, .f32⟩
  | 70 => ⟨S_, .f32⟩
  | 71 => ⟨S16x2048x1024, .f32⟩
  | 72 => ⟨S16x2048x1024, .f32⟩
  | 73 => ⟨S16x2048x1024, .f32⟩
  | 74 => ⟨S16x2048x1024, .f32⟩
  | 75 => ⟨S16x2048x1024, .f32⟩
  | 76 => ⟨S16x2048x1024, .f32⟩
  | 77 => ⟨S16x2048x1024, .f32⟩
  | 78 => ⟨S16x2048x1024, .f32⟩
  | 79 => ⟨S32768x1024, .f32⟩
  | _ => ⟨S32768x5888, .bf16⟩

abbrev hbmTy (i : Nat) : BufTy := match i / 128 with
  | 0 => hbmTy0_0 i
  | 1 => hbmTy0_1 i
  | 2 => hbmTy0_2 i
  | _ => ⟨S32768x5888, .bf16⟩

abbrev bufTy : (tb : Table) → Fin (tcTables nBuf tb) → BufTy
  | .hbm, ⟨i, _⟩ => hbmTy i
  | _, _ => ⟨S32768x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_8 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_cst_9 : Ref sig .tc := ⟨.hbm, 89, rfl⟩
abbrev main_v69 : Ref sig .tc := ⟨.hbm, 90, rfl⟩
abbrev main_cst_10 : Ref sig .tc := ⟨.hbm, 91, rfl⟩
abbrev main_v70 : Ref sig .tc := ⟨.hbm, 92, rfl⟩
abbrev main_c : Ref sig .tc := ⟨.hbm, 93, rfl⟩
abbrev main_v71_0 : Ref sig .tc := ⟨.hbm, 94, rfl⟩
abbrev main_v71_1 : Ref sig .tc := ⟨.hbm, 95, rfl⟩
abbrev main_v71_2 : Ref sig .tc := ⟨.hbm, 96, rfl⟩
abbrev main_v71_3 : Ref sig .tc := ⟨.hbm, 97, rfl⟩
abbrev main_v71_4 : Ref sig .tc := ⟨.hbm, 98, rfl⟩
abbrev main_v71_5 : Ref sig .tc := ⟨.hbm, 99, rfl⟩
abbrev main_v71_6 : Ref sig .tc := ⟨.hbm, 100, rfl⟩
abbrev main_v71_7 : Ref sig .tc := ⟨.hbm, 101, rfl⟩
abbrev main_v71_8 : Ref sig .tc := ⟨.hbm, 102, rfl⟩
abbrev main_v71_9 : Ref sig .tc := ⟨.hbm, 103, rfl⟩
abbrev main_while0c_c_46 : Ref sig .tc := ⟨.hbm, 104, rfl⟩
abbrev main_while0c_v220 : Ref sig .tc := ⟨.hbm, 105, rfl⟩
abbrev main_while0b_call1_c : Ref sig .tc := ⟨.hbm, 106, rfl⟩
abbrev main_while0b_call1_c_0 : Ref sig .tc := ⟨.hbm, 107, rfl⟩
abbrev main_while0b_call1_c_1 : Ref sig .tc := ⟨.hbm, 108, rfl⟩
abbrev main_while0b_call1_c_2 : Ref sig .tc := ⟨.hbm, 109, rfl⟩
abbrev main_while0b_call1_v0 : Ref sig .tc := ⟨.hbm, 110, rfl⟩
abbrev main_while0b_v220 : Ref sig .tc := ⟨.hbm, 111, rfl⟩
abbrev main_while0b_call2_c : Ref sig .tc := ⟨.hbm, 112, rfl⟩
abbrev main_while0b_call2_c_0 : Ref sig .tc := ⟨.hbm, 113, rfl⟩
abbrev main_while0b_call2_c_1 : Ref sig .tc := ⟨.hbm, 114, rfl⟩
abbrev main_while0b_call2_c_2 : Ref sig .tc := ⟨.hbm, 115, rfl⟩
abbrev main_while0b_call2_v0 : Ref sig .tc := ⟨.hbm, 116, rfl⟩
abbrev main_while0b_v221 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v222 : Ref sig .tc := ⟨.hbm, 123, rfl⟩
abbrev main_while0b_v223 : Ref sig .tc := ⟨.hbm, 124, rfl⟩
abbrev main_while0b_v224 : Ref sig .tc := ⟨.hbm, 125, rfl⟩
abbrev main_while0b_v225 : Ref sig .tc := ⟨.hbm, 126, rfl⟩
abbrev main_while0b_v226 : Ref sig .tc := ⟨.hbm, 127, rfl⟩
abbrev main_while0b_v227 : Ref sig .tc := ⟨.hbm, 128, rfl⟩
abbrev main_while0b_v228 : Ref sig .tc := ⟨.hbm, 129, rfl⟩
abbrev main_while0b_v229 : Ref sig .tc := ⟨.hbm, 130, rfl⟩
abbrev main_while0b_v230 : Ref sig .tc := ⟨.hbm, 131, rfl⟩
abbrev main_while0b_v231 : Ref sig .tc := ⟨.hbm, 132, rfl⟩
abbrev main_while0b_v232 : Ref sig .tc := ⟨.hbm, 133, rfl⟩
abbrev main_while0b_v233 : Ref sig .tc := ⟨.hbm, 134, rfl⟩
abbrev main_while0b_v234 : Ref sig .tc := ⟨.hbm, 135, rfl⟩
abbrev main_while0b_v235 : Ref sig .tc := ⟨.hbm, 136, rfl⟩
abbrev main_while0b_v236 : Ref sig .tc := ⟨.hbm, 137, rfl⟩
abbrev main_while0b_v237 : Ref sig .tc := ⟨.hbm, 138, rfl⟩
abbrev main_while0b_v238 : Ref sig .tc := ⟨.hbm, 139, rfl⟩
abbrev main_while0b_v239 : Ref sig .tc := ⟨.hbm, 140, rfl⟩
abbrev main_while0b_call4_v0 : Ref sig .tc := ⟨.hbm, 141, rfl⟩
abbrev main_while0b_call4_c : Ref sig .tc := ⟨.hbm, 142, rfl⟩
abbrev main_while0b_call4_c_0 : Ref sig .tc := ⟨.hbm, 143, rfl⟩
abbrev main_while0b_call4_c_1 : Ref sig .tc := ⟨.hbm, 144, rfl⟩
abbrev main_while0b_call4_c_2 : Ref sig .tc := ⟨.hbm, 145, rfl⟩
abbrev main_while0b_v240 : Ref sig .tc := ⟨.hbm, 146, rfl⟩
abbrev main_while0b_c_46 : Ref sig .tc := ⟨.hbm, 147, rfl⟩
abbrev main_while0b_v241 : Ref sig .tc := ⟨.hbm, 148, rfl⟩
abbrev main_v72 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_cst_11 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_c_12 : Ref sig .tc := ⟨.hbm, 167, rfl⟩
abbrev main_call5_v0 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_v92 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_c_13 : Ref sig .tc := ⟨.hbm, 176, rfl⟩
abbrev main_call6_v0 : Ref sig .tc := ⟨.hbm, 177, rfl⟩
abbrev main_v96 : Ref sig .tc := ⟨.hbm, 178, rfl⟩
abbrev main_v97 : Ref sig .tc := ⟨.hbm, 179, rfl⟩
abbrev main_v98 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_v104 : Ref sig .tc := ⟨.hbm, 186, rfl⟩
abbrev main_v105 : Ref sig .tc := ⟨.hbm, 187, rfl⟩
abbrev main_c_14 : Ref sig .tc := ⟨.hbm, 188, rfl⟩
abbrev main_v106 : Ref sig .tc := ⟨.hbm, 189, rfl⟩
abbrev main_v107 : Ref sig .tc := ⟨.hbm, 190, rfl⟩
abbrev main_v108 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_c_15 : Ref sig .tc := ⟨.hbm, 196, rfl⟩
abbrev main_v113 : Ref sig .tc := ⟨.hbm, 197, rfl⟩
abbrev main_v114 : Ref sig .tc := ⟨.hbm, 198, rfl⟩
abbrev main_c_16 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_c_17 : Ref sig .tc := ⟨.hbm, 206, rfl⟩
abbrev main_v121 : Ref sig .tc := ⟨.hbm, 207, rfl⟩
abbrev main_v122 : Ref sig .tc := ⟨.hbm, 208, rfl⟩
abbrev main_c_18 : Ref sig .tc := ⟨.hbm, 209, rfl⟩
abbrev main_v123 : Ref sig .tc := ⟨.hbm, 210, rfl⟩
abbrev main_v124 : Ref sig .tc := ⟨.hbm, 211, rfl⟩
abbrev main_v125 : Ref sig .tc := ⟨.hbm, 212, rfl⟩
abbrev main_c_19 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_cst_20 : Ref sig .tc := ⟨.hbm, 221, rfl⟩
abbrev main_v133 : Ref sig .tc := ⟨.hbm, 222, rfl⟩
abbrev main_v134 : Ref sig .tc := ⟨.hbm, 223, rfl⟩
abbrev main_cst_21 : Ref sig .tc := ⟨.hbm, 224, rfl⟩
abbrev main_v135 : Ref sig .tc := ⟨.hbm, 225, rfl⟩
abbrev main_v136 : Ref sig .tc := ⟨.hbm, 226, rfl⟩
abbrev main_cst_22 : Ref sig .tc := ⟨.hbm, 227, rfl⟩
abbrev main_v137 : Ref sig .tc := ⟨.hbm, 228, rfl⟩
abbrev main_v138 : Ref sig .tc := ⟨.hbm, 229, rfl⟩
abbrev main_cst_23 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩
abbrev main_v147 : Ref sig .tc := ⟨.hbm, 239, rfl⟩
abbrev main_v148 : Ref sig .tc := ⟨.hbm, 240, rfl⟩
abbrev main_v149 : Ref sig .tc := ⟨.hbm, 241, rfl⟩
abbrev main_v150 : Ref sig .tc := ⟨.hbm, 242, rfl⟩
abbrev main_v151 : Ref sig .tc := ⟨.hbm, 243, rfl⟩
abbrev main_v152 : Ref sig .tc := ⟨.hbm, 244, rfl⟩
abbrev main_v153 : Ref sig .tc := ⟨.hbm, 245, rfl⟩
abbrev main_v154 : Ref sig .tc := ⟨.hbm, 246, rfl⟩
abbrev main_cst_24 : Ref sig .tc := ⟨.hbm, 247, rfl⟩
abbrev main_call7_v0 : Ref sig .tc := ⟨.hbm, 248, rfl⟩
abbrev main_call7_v1 : Ref sig .tc := ⟨.hbm, 249, rfl⟩
abbrev main_call7_v2 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_cst_25 : Ref sig .tc := ⟨.hbm, 256, rfl⟩
abbrev main_v160 : Ref sig .tc := ⟨.hbm, 257, rfl⟩
abbrev main_cst_26 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_cst_27 : Ref sig .tc := ⟨.hbm, 265, rfl⟩
abbrev main_v167 : Ref sig .tc := ⟨.hbm, 266, rfl⟩
abbrev main_v168 : Ref sig .tc := ⟨.hbm, 267, rfl⟩
abbrev main_v169 : Ref sig .tc := ⟨.hbm, 268, rfl⟩
abbrev main_v170 : Ref sig .tc := ⟨.hbm, 269, rfl⟩
abbrev main_v171 : Ref sig .tc := ⟨.hbm, 270, rfl⟩
abbrev main_v172 : Ref sig .tc := ⟨.hbm, 271, rfl⟩
abbrev main_v173 : Ref sig .tc := ⟨.hbm, 272, rfl⟩
abbrev main_v174 : Ref sig .tc := ⟨.hbm, 273, rfl⟩
abbrev main_cst_28 : Ref sig .tc := ⟨.hbm, 274, rfl⟩
abbrev main_v175 : Ref sig .tc := ⟨.hbm, 275, rfl⟩
abbrev main_v176 : Ref sig .tc := ⟨.hbm, 276, rfl⟩
abbrev main_cst_29 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_cst_30 : Ref sig .tc := ⟨.hbm, 283, rfl⟩
abbrev main_v182 : Ref sig .tc := ⟨.hbm, 284, rfl⟩
abbrev main_v183 : Ref sig .tc := ⟨.hbm, 285, rfl⟩
abbrev main_cst_31 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_cst_32 : Ref sig .tc := ⟨.hbm, 291, rfl⟩
abbrev main_v188 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_call8_v0 : Ref sig .tc := ⟨.hbm, 301, rfl⟩
abbrev main_call8_v1 : Ref sig .tc := ⟨.hbm, 302, rfl⟩
abbrev main_call8_cst : Ref sig .tc := ⟨.hbm, 303, rfl⟩
abbrev main_call8_v2 : Ref sig .tc := ⟨.hbm, 304, rfl⟩
abbrev main_call8_v3 : Ref sig .tc := ⟨.hbm, 305, rfl⟩
abbrev main_call8_cst_0 : Ref sig .tc := ⟨.hbm, 306, rfl⟩
abbrev main_call8_v4 : Ref sig .tc := ⟨.hbm, 307, rfl⟩
abbrev main_call8_v5 : Ref sig .tc := ⟨.hbm, 308, rfl⟩
abbrev main_v197 : Ref sig .tc := ⟨.hbm, 309, rfl⟩
abbrev main_v198 : Ref sig .tc := ⟨.hbm, 310, rfl⟩
abbrev main_v199 : Ref sig .tc := ⟨.hbm, 311, rfl⟩
abbrev main_v200 : Ref sig .tc := ⟨.hbm, 312, rfl⟩
abbrev main_cst_33 : Ref sig .tc := ⟨.hbm, 313, rfl⟩
abbrev main_v201 : Ref sig .tc := ⟨.hbm, 314, rfl⟩
abbrev main_v202 : Ref sig .tc := ⟨.hbm, 315, rfl⟩
abbrev main_cst_34 : Ref sig .tc := ⟨.hbm, 316, rfl⟩
abbrev main_v203 : Ref sig .tc := ⟨.hbm, 317, rfl⟩
abbrev main_v204 : Ref sig .tc := ⟨.hbm, 318, rfl⟩
abbrev main_v205 : Ref sig .tc := ⟨.hbm, 319, rfl⟩
abbrev main_v206 : Ref sig .tc := ⟨.hbm, 320, rfl⟩
abbrev main_v207 : Ref sig .tc := ⟨.hbm, 321, rfl⟩
abbrev main_v208 : Ref sig .tc := ⟨.hbm, 322, rfl⟩
abbrev main_cst_35 : Ref sig .tc := ⟨.hbm, 323, rfl⟩
abbrev main_v209 : Ref sig .tc := ⟨.hbm, 324, rfl⟩
abbrev main_v210 : Ref sig .tc := ⟨.hbm, 325, rfl⟩
abbrev main_cst_36 : Ref sig .tc := ⟨.hbm, 326, rfl⟩
abbrev main_v211 : Ref sig .tc := ⟨.hbm, 327, rfl⟩
abbrev main_v212 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_v216 : Ref sig .tc := ⟨.hbm, 332, rfl⟩
abbrev main_v217 : Ref sig .tc := ⟨.hbm, 333, rfl⟩
abbrev main_v218 : Ref sig .tc := ⟨.hbm, 334, rfl⟩
abbrev main_v219 : Ref sig .tc := ⟨.hbm, 335, rfl⟩

abbrev nD : Nat := 1
abbrev τ : Topo := Topo.v7x

variable {F : FTy → Type} [FloatOps F]

abbrev main_while0_count : Scf.Loop 32 := ⟨0#32, 16#32, 1#32⟩
-- ==== InKernel.lean ====
abbrev S32768x1024 : Shape := ⟨2, ![32768, 1024]⟩
abbrev S1024 : Shape := ⟨1, ![1024]⟩
abbrev S1024x5888 : Shape := ⟨2, ![1024, 5888]⟩
abbrev S1x1024 : Shape := ⟨2, ![1, 1024]⟩
abbrev S32768x5888 : Shape := ⟨2, ![32768, 5888]⟩
abbrev S32768x256 : Shape := ⟨2, ![32768, 256]⟩
abbrev S512x1024 : Shape := ⟨2, ![512, 1024]⟩
abbrev S512x5888 : Shape := ⟨2, ![512, 5888]⟩
abbrev S512x256 : Shape := ⟨2, ![512, 256]⟩
abbrev S512 : Shape := ⟨1, ![512]⟩
abbrev S512x1 : Shape := ⟨2, ![512, 1]⟩
abbrev S1024x256 : Shape := ⟨2, ![1024, 256]⟩

abbrev nBuf : Space → Nat
  | .hbm => 7
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5888, .f32⟩
  | .hbm, ⟨3, _⟩ => ⟨S1x1024, .f32⟩
  | .hbm, ⟨4, _⟩ => ⟨S1024x5888, .bf16⟩
  | .hbm, ⟨5, _⟩ => ⟨S32768x5888, .bf16⟩
  | .hbm, ⟨6, _⟩ => ⟨S32768x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5888, .bf16⟩
  | .local _ .vmem, ⟨4, _⟩ => ⟨S512x5888, .bf16⟩
  | .local _ .vmem, ⟨5, _⟩ => ⟨S512x5888, .bf16⟩
  | .local _ .vmem, ⟨6, _⟩ => ⟨S512x256, .bf16⟩
  | .local _ .vmem, ⟨7, _⟩ => ⟨S512x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5888 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5888 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InReferenceIdeal.lean ====
abbrev S32768x1024 : Shape := ⟨2, ![32768, 1024]⟩
abbrev S1024 : Shape := ⟨1, ![1024]⟩
abbrev S1024x5888 : Shape := ⟨2, ![1024, 5888]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5888 : Shape := ⟨3, ![16, 2048, 5888]⟩
abbrev S32768x5888 : Shape := ⟨2, ![32768, 5888]⟩
abbrev S32768x256 : Shape := ⟨2, ![32768, 256]⟩

abbrev nBuf : Space → Nat
  | .hbm => 25
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x5888, .f32⟩
  | .hbm, ⟨3, _⟩ => ⟨S16x2048x1024, .f32⟩
  | .hbm, ⟨4, _⟩ => ⟨S16x2048x1024, .f32⟩
  | .hbm, ⟨5, _⟩ => ⟨S_, .f32⟩
  | .hbm, ⟨6, _⟩ => ⟨S16x2048, .f32⟩
  | .hbm, ⟨7, _⟩ => ⟨S16x2048x1, .f32⟩
  | .hbm, ⟨8, _⟩ => ⟨S_, .f32⟩
  | .hbm, ⟨9, _⟩ => ⟨S16x2048x1, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S16x2048x1, .f32⟩
  | .hbm, ⟨15, _⟩ => ⟨S16x2048x1024, .f32⟩
  | .hbm, ⟨16, _⟩ => ⟨S16x2048x1024, .f32⟩
  | .hbm, ⟨17, _⟩ => ⟨S1x1x1024, .f32⟩
  | .hbm, ⟨18, _⟩ => ⟨S16x2048x1024, .f32⟩
  | .hbm, ⟨19, _⟩ => ⟨S16x2048x1024, .f32⟩
  | .hbm, ⟨20, _⟩ => ⟨S16x2048x5888, .f32⟩
  | .hbm, ⟨21, _⟩ => ⟨S32768x5888, .f32⟩
  | .hbm, ⟨22, _⟩ => ⟨S32768x5888, .bf16⟩
  | .hbm, ⟨23, _⟩ => ⟨S32768x256, .f32⟩
  | .hbm, ⟨24, _⟩ => ⟨S32768x256, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== FfnKernel.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S16x2048x1024 : Shape := ⟨3, ![16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩

abbrev nBuf : Space → Nat
  | .hbm => 54
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16x2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x2816, .f32⟩
  | .hbm, ⟨24, _⟩ => ⟨S16x2048x2816, .f32⟩
  | .hbm, ⟨25, _⟩ => ⟨S16x2048x2816, .f32⟩
  | .hbm, ⟨26, _⟩ => ⟨S_, .f32⟩
  | .hbm, ⟨27, _⟩ => ⟨S16x2048x2816, .f32⟩
  | .hbm, ⟨28, _⟩ => ⟨S16x2048x2816, .f32⟩
  | .hbm, ⟨29, _⟩ => ⟨S_, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S_, .f32⟩
  | .hbm, ⟨39, _⟩ => ⟨S16x2048, .f32⟩
  | .hbm, ⟨40, _⟩ => ⟨S16x2048x1, .f32⟩
  | .hbm, ⟨41, _⟩ => ⟨S_, .f32⟩
  | .hbm, ⟨42, _⟩ => ⟨S16x2048x1, .f32⟩
  | .hbm, ⟨43, _⟩ => ⟨S16x2048x1, .f32⟩
  | .hbm, ⟨44, _⟩ => ⟨S_, .f32⟩
  | .hbm, ⟨45, _⟩ => ⟨S16x2048x1, .f32⟩
  | .hbm, ⟨46, _⟩ => ⟨S16x2048x1, .f32⟩
  | .hbm, ⟨47, _⟩ => ⟨S16x2048x1, .f32⟩
  | .hbm, ⟨48, _⟩ => ⟨S16x2048x1024, .f32⟩
  | .hbm, ⟨49, _⟩ => ⟨S16x2048x1024, .f32⟩
  | .hbm, ⟨50, _⟩ => ⟨S1x1x1024, .f32⟩
  | .hbm, ⟨51, _⟩ => ⟨S16x2048x1024, .f32⟩
  | .hbm, ⟨52, _⟩ => ⟨S16x2048x1024, .f32⟩
  | .hbm, ⟨53, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩

abbrev nD : Nat := 1
abbrev τ : Topo := Topo.v7x

variable {F : FTy → Type} [FloatOps F]
-- ==== Proof.MixFns.lean ====
/-
  The mixer's arithmetic over the extended reals and plain functions of an index: the attention of one row of one head with its
  sink, the retention of one head chunk after chunk, the head norm with its gate, and the merge. Both programs are read as
  these functions.
-/
module

public import Idealize.ShloMosaic.Lib.Pipeline.ValueKit

@[expose] public section

noncomputable section

namespace Cert.Proof.Mix

open Idealize.ShloMosaic

/-- The literals of the programs. -/
abbrev eighth : EReal := Ideal.ofBits .f32 0x3E000000#32
/-- The scale of the retention's keys. -/
abbrev keyScale : EReal := Ideal.ofBits .f32 0x3DB504F3#32
/-- The length of a head's row. -/
abbrev headLen : EReal := Ideal.ofBits .f32 0x43800000#32
/-- The small number under the root. -/
abbrev headEps : EReal := Ideal.ofBits .f32 0x358637BD#32

/-! ## One row of the attention -/

/-- The greatest of a row of scores and its sink. -/
def rowTop (s : Fin 256 → EReal) (z : EReal) : EReal := max ((Finset.univ : Finset (Fin 256)).fold max ⊥ s) z

/-- The weights under the greatest, summed with the sink's. -/
def rowSum (s : Fin 256 → EReal) (z : EReal) : EReal := (∑ j, Ideal.exp (s j - rowTop s z)) + Ideal.exp (z - rowTop s z)

/-- The values weighted, over the sum of the weights. -/
def rowAtt (s : Fin 256 → EReal) (z : EReal) (v : Fin 256 → EReal) : EReal :=
  Ideal.div (∑ j, Ideal.exp (s j - rowTop s z) * v j) (rowSum s z)

/-- The greatest of values that are not plus infinity is not plus infinity. -/
theorem fold_max_ne_top {n : ℕ} (s : Fin n → EReal) (h : ∀ j, s j ≠ ⊤) : (Finset.univ : Finset (Fin n)).fold max ⊥ s ≠ ⊤ := by
  have := (Finset.fold_max_lt (s := (Finset.univ : Finset (Fin n))) (f := s) (b := ⊥) (c := ⊤)).mpr
    ⟨bot_lt_top, fun j _ => lt_top_iff_ne_top.mpr (h j)⟩
  exact this.ne

/-- An exponential is not negative. -/
theorem exp_nonneg (x : EReal) : 0 ≤ Ideal.exp x := by
  induction x with
  | bot => exact le_rfl
  | coe r => exact EReal.coe_nonneg.mpr (Real.exp_pos r).le
  | top => exact le_top

/-- An exponential is not plus infinity below plus infinity. -/
theorem exp_ne_top {x : EReal} (h : x ≠ ⊤) : Ideal.exp x ≠ ⊤ := by
  induction x with
  | bot => exact EReal.zero_ne_top
  | coe r => exact EReal.coe_ne_top _
  | top => exact absurd rfl h

/-- A difference is not plus infinity where the first is not and the second is not minus infinity. -/
theorem sub_ne_top {x y : EReal} (hx : x ≠ ⊤) (hy : y ≠ ⊥) : x - y ≠ ⊤ := by
  induction x <;> induction y <;> simp_all [← EReal.coe_sub]

/-- A sum of values that are not plus infinity is not plus infinity. -/
theorem sum_ne_top {ι : Type*} (t : Finset ι) (f : ι → EReal) (h : ∀ j ∈ t, f j ≠ ⊤) : ∑ j ∈ t, f j ≠ ⊤ := by
  classical
  induction t using Finset.induction_on with
  | empty => simp
  | insert a t ha ih =>
    rw [Finset.sum_insert ha]
    exact EReal.add_ne_top (h a (Finset.mem_insert_self _ _)) (ih fun j hj => h j (Finset.mem_insert_of_mem hj))

/-- A sum times a nonnegative number that is not infinite. -/
theorem sum_mul_of_nonneg {ι : Type*} (t : Finset ι) (f : ι → EReal) {c : EReal} (h0 : 0 ≤ c) (h1 : c ≠ ⊤) :
    ∑ j ∈ t, f j * c = (∑ j ∈ t, f j) * c := by
  classical
  induction t using Finset.induction_on with
  | empty => simp
  | insert a t ha ih =>
    rw [Finset.sum_insert ha, Finset.sum_insert ha, ih, EReal.right_distrib_of_nonneg_of_ne_top h0 h1]

section row

variable (s : Fin 256 → EReal) (z : EReal) (hs : ∀ j, s j ≠ ⊤) (hz : z ≠ ⊤) (hj : ∃ j, s j ≠ ⊥)
include hs hz hj

omit hj in
/-- The greatest is not plus infinity where no score and not the sink is. -/
theorem rowTop_ne_top : rowTop s z ≠ ⊤ := by
  rw [rowTop]
  exact (max_lt (lt_top_iff_ne_top.mpr (fold_max_ne_top s hs)) (lt_top_iff_ne_top.mpr hz)).ne

omit hs hz in
/-- The greatest is not minus infinity where one score is not. -/
theorem rowTop_ne_bot : rowTop s z ≠ ⊥ := by
  obtain ⟨j, h⟩ := hj
  refine fun e => h (le_bot_iff.mp (e ▸ le_max_of_le_left ?_))
  exact (Finset.le_fold_max _).mpr (.inr ⟨j, Finset.mem_univ _, le_rfl⟩)

omit hs hz in
/-- The greatest is the sink or one of the scores. -/
theorem rowTop_attained : z = rowTop s z ∨ ∃ j, s j = rowTop s z := by
  rcases max_choice ((Finset.univ : Finset (Fin 256)).fold max ⊥ s) z with e | e
  · rcases (Finset.le_fold_max (s := (Finset.univ : Finset (Fin 256))) (f := s) (b := ⊥) _).mp le_rfl with h | ⟨j, _, h⟩
    · exact absurd (e.trans (le_bot_iff.mp h)) (rowTop_ne_bot s z hj)
    · exact .inr ⟨j, (le_antisymm h ((Finset.le_fold_max _).mpr (.inr ⟨j, Finset.mem_univ _, le_rfl⟩))).symm.trans e.symm⟩
  · exact .inl e.symm

/-- The sum of the weights is a positive real number. -/
theorem rowSum_real : ∃ r : ℝ, 0 < r ∧ rowSum s z = r := by
  have ht := rowTop_ne_top s z hs hz
  have hb := rowTop_ne_bot s z hj
  have h1 : rowSum s z ≠ ⊤ := EReal.add_ne_top (sum_ne_top _ _ fun j _ => exp_ne_top (sub_ne_top (hs j) hb))
    (exp_ne_top (sub_ne_top hz hb))
  have hp : 0 < Ideal.exp (rowTop s z - rowTop s z) := by
    generalize rowTop s z = M at ht hb
    lift M to ℝ using ⟨ht, hb⟩
    rw [← EReal.coe_sub, Ideal.exp_coe]
    exact EReal.coe_pos.mpr (Real.exp_pos _)
  have h2 : 0 < rowSum s z := by
    rcases rowTop_attained s z hj with e | ⟨j, e⟩
    · refine lt_of_lt_of_le ?_ (le_add_of_nonneg_left (Finset.sum_nonneg fun j _ => exp_nonneg _))
      rw [← e] at hp ⊢
      exact hp
    · have hw : 0 < Ideal.exp (s j - rowTop s z) := by rw [e]; exact hp
      refine lt_of_lt_of_le (lt_of_lt_of_le hw ?_) (le_add_of_nonneg_right (exp_nonneg _))
      exact Finset.single_le_sum (f := fun j => Ideal.exp (s j - rowTop s z)) (fun j _ => exp_nonneg _) (Finset.mem_univ j)
  refine ⟨(rowSum s z).toReal, EReal.toReal_pos h2 h1, (EReal.coe_toReal h1 ?_).symm⟩
  exact (lt_trans EReal.bot_lt_zero h2).ne'

/-- Weighting the values by the weights over their sum is weighting them and dividing then. -/
theorem rowAtt_of_shares (v : Fin 256 → EReal) :
    ∑ j, v j * Ideal.div (Ideal.exp (s j - rowTop s z)) (rowSum s z) = rowAtt s z v := by
  obtain ⟨r, hr, e⟩ := rowSum_real s z hs hz hj
  rw [rowAtt, e, Ideal.div_coe hr.ne', ← sum_mul_of_nonneg _ _ (EReal.coe_nonneg.mpr (by positivity)) (EReal.coe_ne_top _)]
  refine Finset.sum_congr rfl fun j _ => ?_
  rw [Ideal.div_coe hr.ne', ← mul_assoc, mul_comm (v j)]

end row

/-- The weights of scores that are minus infinity take no part, whatever their values. -/
theorem rowAtt_congr (s : Fin 256 → EReal) (z : EReal) (v w : Fin 256 → EReal) (h : ∀ j, s j ≠ ⊥ → v j = w j) :
    rowAtt s z v = rowAtt s z w := by
  unfold rowAtt
  congr 1
  refine Finset.sum_congr rfl fun j _ => ?_
  by_cases e : s j = ⊥
  · rw [e, EReal.bot_sub, Ideal.exp_bot, zero_mul, zero_mul]
  · rw [h j e]

/-- The greatest, the sum and the values over 257 scores, the last of them the sink. -/
theorem fold_max_succ (f : Fin 257 → EReal) :
    (Finset.univ : Finset (Fin 257)).fold max ⊥ f
      = max ((Finset.univ : Finset (Fin 256)).fold max ⊥ fun j => f j.castSucc) (f (Fin.last 256)) := by
  apply le_antisymm
  · refine Finset.fold_max_le _ |>.mpr ⟨bot_le, fun j _ => ?_⟩
    refine Fin.lastCases ?_ (fun i => ?_) j
    · exact le_max_right _ _
    · exact le_max_of_le_left (Finset.le_fold_max _ |>.mpr (.inr ⟨i, Finset.mem_univ _, le_rfl⟩))
  · refine max_le (Finset.fold_max_le _ |>.mpr ⟨bot_le, fun j _ => ?_⟩) ?_
    · exact Finset.le_fold_max _ |>.mpr (.inr ⟨j.castSucc, Finset.mem_univ _, le_rfl⟩)
    · exact Finset.le_fold_max _ |>.mpr (.inr ⟨Fin.last 256, Finset.mem_univ _, le_rfl⟩)

/-- Scores with the sink behind them. -/
def behind (s : Fin 256 → EReal) (z : EReal) (j : Fin 257) : EReal := if h : j.val < 256 then s ⟨j.val, h⟩ else z

/-- Before the last, the scores. -/
theorem behind_castSucc (s : Fin 256 → EReal) (z : EReal) (j : Fin 256) : behind s z j.castSucc = s j := dif_pos j.isLt

/-- The last, the sink. -/
theorem behind_last (s : Fin 256 → EReal) (z : EReal) : behind s z (Fin.last 256) = z := dif_neg (lt_irrefl 256)

/-- The greatest of the scores with the sink behind them is the row's greatest. -/
theorem fold_behind (s : Fin 256 → EReal) (z : EReal) :
    (Finset.univ : Finset (Fin 257)).fold max ⊥ (behind s z) = rowTop s z := by
  rw [fold_max_succ, behind_last]
  simp only [behind_castSucc]
  rw [rowTop]

/-- The weights of the scores with the sink behind them sum to the row's sum. -/
theorem sum_behind (s : Fin 256 → EReal) (z : EReal) :
    ∑ j, Ideal.exp (behind s z j - rowTop s z) = rowSum s z := by
  rw [Fin.sum_univ_castSucc, behind_last]
  simp only [behind_castSucc]
  rw [rowSum]

/-! ## The scores -/

section scores

variable (P : Fin 32768 → Fin 5888 → EReal)

/-- Row `i` of chunk `n` of batch `b`. -/
abbrev rowAt (b n : Fin 16) (i : Fin 128) : Fin 32768 := ⟨b.val * 2048 + (n.val * 128 + i.val), by omega⟩

/-- The number at column `c` of the `j`-th of the 256 rows that a chunk sees; zero before the batch. -/
def band (b n : Fin 16) (j : Fin 256) (c : Fin 5888) : EReal :=
  if h : 128 ≤ n.val * 128 + j.val then P ⟨b.val * 2048 + (n.val * 128 + j.val - 128), by omega⟩ c else 0

/-- The distance of query and key as a word. -/
abbrev distWord (i : Fin 128) (j : Fin 256) : BitVec 32 :=
  IntOp.subi (IntOp.addi (BitVec.ofNat 32 i.val) 128#32) (BitVec.ofNat 32 j.val)

/-- Whether the distance is in the window. -/
def near (i : Fin 128) (j : Fin 256) : BitVec 1 :=
  IntOp.andi (IntOp.cmpi .sge (distWord i j) 0#32) (IntOp.cmpi .slt (distWord i j) 128#32)

/-- The slope of head `h`. -/
def slope (h : Fin 8) : EReal :=
  Ideal.exp (Ideal.ofBits .f32 0x3F317218#32 * Ideal.div (Ideal.ofBits .f32 0xC1000000#32
    * (FloatOps.sitofp (F := Ideal) .f32 (BitVec.ofNat 32 h.val) + 1)) (Ideal.ofBits .f32 0x41000000#32))

/-- The slope times the distance. -/
def penaltyOf (h : Fin 8) (i : Fin 128) (j : Fin 256) : EReal :=
  slope h * FloatOps.sitofp (F := Ideal) .f32 (distWord i j)

/-- The product of a query and a key over eight, less the distance's penalty; minus infinity where the key is not seen. -/
def score (b n : Fin 16) (h : Fin 8) (i : Fin 128) (j : Fin 256) : EReal :=
  if n.val * 128 + j.val < 128 then ⊥ else
    Scalar.select (near i j) ((∑ d : Fin 64, P (rowAt b n i) ⟨h.val * 64 + d.val, by omega⟩
      * band P b n j ⟨512 + (h.val / 4 * 64 + d.val), by omega⟩) * eighth - penaltyOf h i j) ⊥

/-- The attention at row `i` of a chunk, column `c` of the eight heads. -/
def att (sk : Fin 8 → EReal) (b n : Fin 16) (i : Fin 128) (c : Fin 512) : EReal :=
  rowAtt (score P b n ⟨c.val / 64, by omega⟩ i) (sk ⟨c.val / 64, by omega⟩)
    (fun j => band P b n j ⟨640 + (c.val / 64 / 4 * 64 + c.val % 64), by omega⟩)

/-! ## The retention -/

/-- The logarithm of head `h`'s decay. -/
def logDecay (h : Fin 4) : EReal :=
  Ideal.log (1 - Ideal.exp (Ideal.ofBits .f32 0x3F317218#32
    * (Ideal.ofBits .f32 0xC0A00000#32 - FloatOps.sitofp (F := Ideal) .f32 (BitVec.ofNat 32 h.val))))

/-- The difference of two positions of a chunk. -/
abbrev gap (i j : Fin 128) : EReal :=
  FloatOps.sitofp (F := Ideal) .f32 (BitVec.ofNat 32 i.val) - FloatOps.sitofp (F := Ideal) .f32 (BitVec.ofNat 32 j.val)

/-- The decay between two positions of a chunk. -/
def decayIn (h : Fin 4) (i j : Fin 128) : EReal :=
  Scalar.select (FloatOps.cmpf (F := Ideal) (φ := .f32) .oge (gap i j) 0) (Ideal.exp (logDecay h * max (gap i j) 0)) 0

/-- The decay of the entering state at position `i`. -/
def decayQ (h : Fin 4) (i : Fin 128) : EReal :=
  Ideal.exp (logDecay h * (FloatOps.sitofp (F := Ideal) .f32 (BitVec.ofNat 32 i.val) + 1))

/-- The decay of position `i` in the leaving state. -/
def decayK (h : Fin 4) (i : Fin 128) : EReal :=
  Ideal.exp (logDecay h * (Ideal.ofBits .f32 0x42FE0000#32 - FloatOps.sitofp (F := Ideal) .f32 (BitVec.ofNat 32 i.val)))

/-- The decay of a state over a chunk. -/
def decayC (h : Fin 4) : EReal := Ideal.exp (logDecay h * Ideal.ofBits .f32 0x43000000#32)

/-- The retention's queries, keys and values. -/
abbrev rq (b n : Fin 16) (h : Fin 4) (i d : Fin 128) : EReal := P (rowAt b n i) ⟨768 + (h.val * 128 + d.val), by omega⟩
/-- The keys. -/
abbrev rk (b n : Fin 16) (h : Fin 4) (i d : Fin 128) : EReal := P (rowAt b n i) ⟨1280 + (h.val * 128 + d.val), by omega⟩
/-- The values. -/
abbrev rv (b n : Fin 16) (h : Fin 4) (i : Fin 128) (v : Fin 256) : EReal :=
  P (rowAt b n i) ⟨1792 + (h.val * 256 + v.val), by omega⟩

/-- The state of head `h` before chunk `n` of batch `b`. -/
def stateAt (b : Fin 16) (h : Fin 4) : ℕ → Fin 128 → Fin 256 → EReal
  | 0, _, _ => 0
  | n + 1, d, v => decayC h * stateAt b h n d v
      + ∑ i, rk P b (Fin.ofNat 16 n) h i d * keyScale * decayK h i * rv P b (Fin.ofNat 16 n) h i v

/-- The retention at row `i` of chunk `n`: the decayed products inside the chunk, and the state that enters it. -/
def ret (b n : Fin 16) (h : Fin 4) (i : Fin 128) (v : Fin 256) : EReal :=
  (∑ j, (∑ d, rq P b n h i d * rk P b n h j d) * keyScale * decayIn h i j * rv P b n h j v)
    + (∑ d, rq P b n h i d * stateAt P b h n.val d v) * decayQ h i

/-- The mean of a head's row. -/
def headMean (o : Fin 256 → EReal) : EReal := Ideal.div (∑ k, o k) headLen

/-- A head's row centred, at unit variance, times its gain and the swish of its gate. -/
def headGate (o g r : Fin 256 → EReal) (v : Fin 256) : EReal :=
  (o v - headMean o) * Ideal.rsqrt (headMean (fun k => (o k - headMean o) * (o k - headMean o)) + headEps) * g v
    * (r v * Ideal.logistic (r v))

/-- The gated retention at row `i` of a chunk, column `c` of the four heads. -/
def gatedRet (g : Fin 1024 → EReal) (b n : Fin 16) (i : Fin 128) (c : Fin 1024) : EReal :=
  headGate (ret P b n ⟨c.val / 256, by omega⟩ i) (fun v => g ⟨c.val / 256 * 256 + v.val, by omega⟩)
    (fun v => P (rowAt b n i) ⟨2816 + (c.val / 256 * 256 + v.val), by omega⟩) ⟨c.val % 256, by omega⟩

/-- The two products under their gates, at column `c`. -/
def merged (sk : Fin 8 → EReal) (g : Fin 1024 → EReal) (wa : Fin 512 → Fin 1024 → EReal) (wr : Fin 1024 → Fin 1024 → EReal)
    (b n : Fin 16) (i : Fin 128) (c : Fin 1024) : EReal :=
  Ideal.logistic (P (rowAt b n i) ⟨3840 + c.val, by omega⟩) * (∑ k, att P sk b n i k * wa k c)
    + Ideal.logistic (P (rowAt b n i) ⟨4864 + c.val, by omega⟩) * (∑ k, gatedRet P g b n i k * wr k c)

/-- The mixer at row `i` of chunk `n` of batch `b`, column `c`. -/
def mixer (x : Fin 32768 → Fin 1024 → EReal) (sk : Fin 8 → EReal) (g : Fin 1024 → EReal) (wa : Fin 512 → Fin 1024 → EReal)
    (wr wo : Fin 1024 → Fin 1024 → EReal) (b n : Fin 16) (i : Fin 128) (c : Fin 1024) : EReal :=
  x (rowAt b n i) c + ∑ k, merged P sk g wa wr b n i k * wo k c

end scores

/-! ## The literals and what is made of them -/

/-- The literal 1/8. -/
theorem eighth_real : eighth = ((1 / 8 : ℝ) : EReal) := by
  simp [Ideal.ofBits, Ideal.ieee, -EReal.coe_mul]; norm_num

/-- The literal 8. -/
theorem eight_real : Ideal.ofBits .f32 0x41000000#32 = ((8 : ℝ) : EReal) := by
  simp [Ideal.ofBits, Ideal.ieee, -EReal.coe_mul]; norm_num

/-- The literal -8 is a real number. -/
theorem minus_eight : ∃ r : ℝ, Ideal.ofBits .f32 0xC1000000#32 = (r : EReal) := by
  simp [Ideal.ofBits, Ideal.ieee, -EReal.coe_mul, -EReal.coe_neg]

/-- The scale of the keys is a real number, not negative. -/
theorem keyScale_real : ∃ r : ℝ, 0 ≤ r ∧ keyScale = (r : EReal) := by
  refine ⟨11863283 * (2 : ℝ) ^ (-27 : ℤ), by positivity, ?_⟩
  simp [Ideal.ofBits, Ideal.ieee, -EReal.coe_mul]

/-- The literal ln 2 is a real number. -/
theorem log2_real : ∃ r : ℝ, Ideal.ofBits .f32 0x3F317218#32 = (r : EReal) := by
  simp [Ideal.ofBits, Ideal.ieee, -EReal.coe_mul]

/-- A slope is a real number. -/
theorem slope_real (h : Fin 8) : ∃ r : ℝ, slope h = r := by
  obtain ⟨a, ha⟩ := log2_real
  obtain ⟨b, hb⟩ := minus_eight
  refine ⟨Real.exp (a * (b * (((BitVec.ofNat 32 h.val).toInt : ℝ) + 1) * (1 / 8))), ?_⟩
  rw [slope, ha, hb, eight_real, Ideal.div_coe (by norm_num)]
  change Ideal.exp (_ * (_ * ((((BitVec.ofNat 32 h.val).toInt : ℝ) : EReal) + ((1 : ℝ) : EReal)) * _)) = _
  rw [← EReal.coe_add, ← EReal.coe_mul, ← EReal.coe_mul, ← EReal.coe_mul, Ideal.exp_coe]

/-- A penalty is a real number. -/
theorem penaltyOf_real (h : Fin 8) (i : Fin 128) (j : Fin 256) : ∃ r : ℝ, penaltyOf h i j = r := by
  obtain ⟨a, ha⟩ := slope_real h
  exact ⟨a * (((distWord i j).toInt : ℝ)), by rw [penaltyOf, ha]; exact (EReal.coe_mul _ _).symm⟩

/-- A sum of real numbers is a real number. -/
theorem sum_real {ι : Type*} (t : Finset ι) (f : ι → EReal) (h : ∀ j ∈ t, ∃ r : ℝ, f j = r) : ∃ r : ℝ, ∑ j ∈ t, f j = r := by
  classical
  induction t using Finset.induction_on with
  | empty => exact ⟨0, by simp⟩
  | insert a t ha ih =>
    obtain ⟨x, hx⟩ := h a (Finset.mem_insert_self _ _)
    obtain ⟨y, hy⟩ := ih fun j hj => h j (Finset.mem_insert_of_mem hj)
    exact ⟨x + y, by rw [Finset.sum_insert ha, hx, hy, EReal.coe_add]⟩

section real

variable (P : Fin 32768 → Fin 5888 → EReal) (hP : ∀ r (c : Fin 5888), c.val < 640 → ∃ x : ℝ, P r c = x) (b n : Fin 16)
  (h : Fin 8) (i : Fin 128)
include hP

/-- Before the window hides any, a score is a real number where queries and keys are. -/
theorem product_real (j : Fin 256) : ∃ r : ℝ, (∑ d : Fin 64, P (rowAt b n i) ⟨h.val * 64 + d.val, by omega⟩
    * band P b n j ⟨512 + (h.val / 4 * 64 + d.val), by omega⟩) * eighth - penaltyOf h i j = r := by
  have hband : ∀ c : Fin 5888, c.val < 640 → ∃ x : ℝ, band P b n j c = x := by
    intro c hc
    unfold band
    split
    · exact hP _ _ hc
    · exact ⟨0, EReal.coe_zero.symm⟩
  obtain ⟨w, hw⟩ := penaltyOf_real h i j
  obtain ⟨q, hq⟩ := sum_real Finset.univ (fun d : Fin 64 => P (rowAt b n i) ⟨h.val * 64 + d.val, by omega⟩
    * band P b n j ⟨512 + (h.val / 4 * 64 + d.val), by omega⟩) fun d _ => by
      obtain ⟨x, hx⟩ := hP (rowAt b n i) ⟨h.val * 64 + d.val, by omega⟩ (by dsimp only; omega)
      obtain ⟨y, hy⟩ := hband ⟨512 + (h.val / 4 * 64 + d.val), by omega⟩ (by dsimp only; omega)
      exact ⟨x * y, by rw [hx, hy, EReal.coe_mul]⟩
  exact ⟨q * (1 / 8) - w, by rw [hq, hw, eighth_real, EReal.coe_sub, EReal.coe_mul]⟩

/-- Scores are not plus infinity where queries and keys are real numbers. -/
theorem score_ne_top (j : Fin 256) : score P b n h i j ≠ ⊤ := by
  obtain ⟨r, hr⟩ := product_real P hP b n h i j
  rw [score, hr, Scalar.select]
  split
  · exact bot_ne_top
  · split
    · exact EReal.coe_ne_top r
    · exact bot_ne_top

/-- A row's score with its own key is not minus infinity where queries and keys are real numbers. -/
theorem score_own : ∃ j, score P b n h i j ≠ ⊥ := by
  have hn : ∀ i : Fin 128, near i ⟨i.val + 128, by omega⟩ = 1#1 := by decide +kernel
  refine ⟨⟨i.val + 128, by omega⟩, ?_⟩
  obtain ⟨r, hr⟩ := product_real P hP b n h i ⟨i.val + 128, by omega⟩
  rw [score, hr, if_neg (by dsimp only; omega), hn, Scalar.select]
  exact EReal.coe_ne_bot r

end real

end Cert.Proof.Mix

end
-- ==== Proof.MixFinite.lean ====
/-
  What the precondition says: the queries and the keys of the attention are real numbers, and no sink is plus infinity.
-/
module

public import proofs.«01_k».proof.Pre_finite
public import proofs.«01_k».proof.Proof.MixFns

@[expose] public section

noncomputable section

namespace Cert.Proof.Mix

open Idealize.ShloMosaic

/-- The literal the absolute values are compared with is plus infinity. -/
theorem pos_inf : Ideal.ofBits .f32 0x7F800000#32 = (⊤ : EReal) := by
  simp [Ideal.ofBits, Ideal.ieee]

/-- A value that compares below plus infinity is not plus infinity. -/
theorem ne_top_of_lt_word (x : EReal) (h : Ideal.cmp .olt x (Ideal.ofBits .f32 0x7F800000#32) = 1#1) : x ≠ ⊤ := by
  rintro rfl
  rw [pos_inf, show Ideal.cmp .olt (⊤ : EReal) ⊤ = BitVec.ofBool (decide ((⊤ : EReal) < ⊤)) from rfl, decide_eq_false (lt_irrefl _)] at h
  exact absurd h (by decide)

/-- A value whose absolute value compares below plus infinity is a real number. -/
theorem real_of_abs_lt (x : EReal) (h : Ideal.cmp .olt (max x (-x)) (Ideal.ofBits .f32 0x7F800000#32) = 1#1) :
    ∃ r : ℝ, x = r := by
  have hl := ne_top_of_lt_word _ h
  induction x with
  | bot => simp at hl
  | coe r => exact ⟨r, rfl⟩
  | top => simp at hl

/-- The shape conditions the precondition's operations take. -/
theorem finite_facts : Cert.Pre_finite.Facts where
  bitsLt_bf16_f32 := by decide
  slices_S32768x5888_S32768x640_0_0 := by decide
  bcast_S_S32768x640 := by decide
  bcast_S_S8 := by decide

variable [Cert.Pre_finite.Facts] (p : FVec Ideal Cert.Pre_finite.S32768x5888 .bf16) (x : FVec Ideal Cert.Pre_finite.S32768x1024 .f32)
  (sk : FVec Ideal Cert.Pre_finite.S8 .f32) (g : FVec Ideal Cert.Pre_finite.S1024 .f32) (wa : FVec Ideal Cert.Pre_finite.S512x1024 .f32)
  (wr wo : FVec Ideal Cert.Pre_finite.S1024x1024 .f32)

/-- Under the precondition the queries and keys are real numbers. -/
theorem finite_rows (h : (Cert.Pre_finite.fn (F := Ideal) p x sk g wa wr wo).1 = fun _ => 1#1) (r : Fin 32768) (c : Fin 5888)
    (hc : c.val < 640) : ∃ x : ℝ, p (ix2 r c) = x := by
  have e := congrFun h (ix2 r ⟨c.val, hc⟩)
  refine real_of_abs_lt _ (Eq.trans ?_ e)
  pointwise [Cert.Pre_finite.fn]
  rfl

/-- Under the precondition the sinks are not plus infinity. -/
theorem finite_sinks (h : (Cert.Pre_finite.fn (F := Ideal) p x sk g wa wr wo).2 = fun _ => 1#1) (k : Fin 8) : sk (ix1 k) ≠ ⊤ := by
  have e := congrFun h (ix1 k)
  refine ne_top_of_lt_word _ (Eq.trans ?_ e)
  pointwise [Cert.Pre_finite.fn]

end Cert.Proof.Mix

end
-- ==== Proof.Frames.lean ====
/-
  The frames of the three kernels, their idealized forms and their references: each run ends, leaves its arguments as they
  were, and leaves every semaphore at zero.
-/
module

public import proofs.«01_k».proof.Defs
public import proofs.«01_k».proof.Proof.MixFinite
public import proofs.«01_k».proof.Proof.Gen.Kernel.Frame
public import proofs.«01_k».proof.Proof.Gen.KernelIdeal.Frame
public import proofs.«01_k».proof.Proof.Gen.ReferenceIdeal.Run
public import proofs.«01_k».proof.Proof.Gen.InKernel.Frame
public import proofs.«01_k».proof.Proof.Gen.InKernelIdeal.Frame
public import proofs.«01_k».proof.Proof.Gen.InReferenceIdeal.Run
public import proofs.«01_k».proof.Proof.Gen.FfnKernel.Frame
public import proofs.«01_k».proof.Proof.Gen.FfnKernelIdeal.Frame
public import proofs.«01_k».proof.Proof.Gen.FfnReferenceIdeal.Run

@[expose] public section

set_option maxRecDepth 16384

noncomputable section

namespace Cert.Proof.Frames

open Idealize.ShloMosaic Idealize.SL.Sem

/-- The frame of the mixer. -/
theorem mixer : Cert.quiescent_Kernel (hKernel := Cert.Kernel.Gen.facts) := fun m ρ _ => Cert.Kernel.Gen.frame m ρ

/-- The frame of the idealized mixer. -/
theorem mixerIdeal : Cert.quiescent_KernelIdeal (hKernelIdeal := Cert.KernelIdeal.Gen.facts) :=
  fun m ρ _ => Cert.KernelIdeal.Gen.frame m ρ

/-- The frame of the input projection. -/
theorem input : Cert.quiescent_InKernel (hInKernel := Cert.InKernel.Gen.facts) := fun m ρ _ => Cert.InKernel.Gen.frame m ρ

/-- The frame of the idealized input projection. -/
theorem inputIdeal : Cert.quiescent_InKernelIdeal (hInKernelIdeal := Cert.InKernelIdeal.Gen.facts) :=
  fun m ρ _ => Cert.InKernelIdeal.Gen.frame m ρ

/-- The frame of the feed-forward. -/
theorem ffn : Cert.quiescent_FfnKernel (hFfnKernel := Cert.FfnKernel.Gen.facts) := fun m ρ _ => Cert.FfnKernel.Gen.frame m ρ

/-- The frame of the idealized feed-forward. -/
theorem ffnIdeal : Cert.quiescent_FfnKernelIdeal (hFfnKernelIdeal := Cert.FfnKernelIdeal.Gen.facts) :=
  fun m ρ _ => Cert.FfnKernelIdeal.Gen.frame m ρ

/-- The mixer's reference declares no semaphore; its run is read at the arguments. -/
theorem mixerReference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two mixer frames hold under the precondition too, which they do not need. -/
theorem mixerIdealFinite : Cert.quiescent_KernelIdeal_pre_finite (hKernelIdeal := Cert.KernelIdeal.Gen.facts) (hPre_finite := Mix.finite_facts) :=
  fun m ρ _ => Cert.KernelIdeal.Gen.frame m ρ

/-- The reference's frame under the precondition. -/
theorem mixerReferenceFinite : Cert.quiescent_ReferenceIdeal_pre_finite (hReferenceIdeal := Cert.ReferenceIdeal.Gen.facts)
    (hPre_finite := Mix.finite_facts) := fun m ρ _ => mixerReference m ρ trivial

/-- So for the input projection's reference. -/
theorem inputReference : Cert.quiescent_InReferenceIdeal (hInReferenceIdeal := Cert.InReferenceIdeal.Gen.facts) := fun m ρ _ =>
  (θ_run Cert.InReferenceIdeal.defs _ _).mono (fun r h => ⟨fun c => (h c).2.2, sem_eq_zero_of_no_sems (by decide) r.2⟩)
    (Cert.InReferenceIdeal.Value.run (F := Ideal) m ρ)

/-- So for the feed-forward's reference. -/
theorem ffnReference : Cert.quiescent_FfnReferenceIdeal (hFfnReferenceIdeal := Cert.FfnReferenceIdeal.Gen.facts) := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

end Cert.Proof.Frames

end
-- ==== Proof.RowFns.lean ====
/-
  The layer's arithmetic on one row, over the extended reals and plain functions of an index: the root-mean-square norm and the
  gated feed-forward. Both programs are read as these functions.
-/
module

public import Idealize.ShloMosaic.Lib.Pipeline.ValueKit

@[expose] public section

noncomputable section

namespace Cert.Proof

open Idealize.ShloMosaic

/-- The number a row's sum of squares is divided by: the row's length 1024, as the programs write it. -/
abbrev rowLen : EReal := Ideal.ofBits .f32 0x44800000#32
/-- The small number added to the mean square before the root. -/
abbrev rowEps : EReal := Ideal.ofBits .f32 0x358637BD#32

/-- The root-mean-square norm of a row `x` of 1024 numbers with gain `g`, at position `i`. -/
def rowNorm (x g : Fin 1024 → EReal) (i : Fin 1024) : EReal :=
  x i * Ideal.rsqrt (Ideal.div (∑ k, x k * x k) rowLen + rowEps) * g i

/-- The gated hidden number of one column: `a · σ(a) · b`, where `a` and `b` are the products of the row `h` with the
    column's gate weights and value weights. -/
def gated (h u v : Fin 1024 → EReal) : EReal :=
  (∑ i, h i * u i) * Ideal.logistic (∑ i, h i * u i) * (∑ i, h i * v i)

/-- The feed-forward of one row with its residual, before the closing norm. -/
def ffnRow (x g : Fin 1024 → EReal) (wg wu : Fin 1024 → Fin 2816 → EReal) (wd : Fin 2816 → Fin 1024 → EReal) (d : Fin 1024) :
    EReal :=
  x d + ∑ j, gated (rowNorm x g) (fun i => wg i j) (fun i => wu i j) * wd j d

/-- A sum over 2816 positions taken in eleven runs of 256, added on one after another. -/
theorem sum_in_runs (s : EReal) (G : Fin 2816 → EReal) :
    s + ∑ j, G j = s + (∑ k : Fin 256, G ⟨0 + k.val, by omega⟩) + (∑ k : Fin 256, G ⟨256 + k.val, by omega⟩)
      + (∑ k : Fin 256, G ⟨512 + k.val, by omega⟩) + (∑ k : Fin 256, G ⟨768 + k.val, by omega⟩)
      + (∑ k : Fin 256, G ⟨1024 + k.val, by omega⟩) + (∑ k : Fin 256, G ⟨1280 + k.val, by omega⟩)
      + (∑ k : Fin 256, G ⟨1536 + k.val, by omega⟩) + (∑ k : Fin 256, G ⟨1792 + k.val, by omega⟩)
      + (∑ k : Fin 256, G ⟨2048 + k.val, by omega⟩) + (∑ k : Fin 256, G ⟨2304 + k.val, by omega⟩)
      + (∑ k : Fin 256, G ⟨2560 + k.val, by omega⟩) := by
  have h : ∑ j, G j = ∑ a : Fin 11, ∑ k : Fin 256, G ⟨256 * a.val + k.val, by omega⟩ := by
    rw [← Fintype.sum_prod_type', ← Equiv.sum_comp (finProdFinEquiv (m := 11) (n := 256))]
    refine Finset.sum_congr rfl fun p _ => congrArg G (Fin.ext ?_)
    simp only [finProdFinEquiv_apply_val]
    omega
  have e : ∀ T : Fin 11 → EReal, s + ∑ a, T a = s + T 0 + T 1 + T 2 + T 3 + T 4 + T 5 + T 6 + T 7 + T 8 + T 9 + T 10 := by
    intro T
    simp only [Fin.sum_univ_succ, Fin.sum_univ_zero, add_zero, ← add_assoc]
    rfl
  rw [h, e]
  rfl

end Cert.Proof

end
-- ==== Proof.InBlock.lean ====
/-
  What the input projection's body stores at one grid point: 23 runs of 256 columns, each the normed rows times the run's
  columns of the weights; one of the runs is stored a second time, as the keys and values.
-/
module

public import proofs.«01_k».proof.Proof.RowFns
public import proofs.«01_k».proof.Proof.Gen.InKernelIdeal.Frame

@[expose] public section

set_option maxRecDepth 16384

noncomputable section

namespace Cert.Proof.In

open Idealize.ShloMosaic Idealize.SL.Sem Cert.InKernelIdeal Cert.InKernelIdeal.Gen

/-- One run of 256 columns. -/
def colRun (h : FVec Ideal S512x1024 .bf16) (w : FVec Ideal S1024x256 .bf16) : FVec Ideal S512x256 .bf16 :=
  truncf .bf16 (matmul dot_S512x1024_S1024x256_S512x256_1_0_0_1_n_n none h w (constant S512x256 .f32 0x00000000#32)) bitsLt_bf16_f32

/-- The rows the products read: the norm of the block's rows. -/
theorem hid_at (x : FVec Ideal S512x1024 .f32) (g : FVec Ideal S1x1024 .f32) (r : Fin 512) (i : Fin 1024) :
    k0_pay5 (F := Ideal) x g (ix2 r i) = rowNorm (fun k => x (ix2 r k)) (fun k => g (ix2 0 k)) i := by
  pointwise [k0_pay5, rowNorm]

/-- A run at an index: the row's product with the column of the weights. -/
theorem colRun_at (x0 : FVec Ideal S512x1024 .f32) (x1 : FVec Ideal S1x1024 .f32) (w : FVec Ideal S1024x256 .bf16) (r : Fin 512)
    (k : Fin 256) : colRun (k0_pay5 (F := Ideal) x0 x1) w (ix2 r k)
      = ∑ i, rowNorm (fun k => x0 (ix2 r k)) (fun k => x1 (ix2 0 k)) i * w (ix2 i k) := by
  have hh : ∀ i, k0_pay5 (F := Ideal) x0 x1 (ix2 r i) = rowNorm (fun k => x0 (ix2 r k)) (fun k => x1 (ix2 0 k)) i :=
    hid_at x0 x1 r
  pointwise [colRun]
  simp only [hh]

/-- The projected row at one column. -/
def projRow (x g : Fin 1024 → EReal) (w : Fin 1024 → Fin 5888 → EReal) (j : Fin 5888) : EReal := ∑ i, rowNorm x g i * w i j

variable (x0 : Vec Ideal S512x1024 .f32) (x1 : Vec Ideal S1x1024 .f32) (x2 : Vec Ideal S1024x5888 .bf16)

/-- The first result's block, at an index. -/
theorem out_at (r : Fin 512) (j : Fin 5888) : out0_3 x0 x1 x2 (ix2 r j)
    = projRow (fun k => x0 (ix2 r k)) (fun k => x1 (ix2 0 k)) (fun i j => x2 (ix2 i j)) j := by
  have hz : (![0, 0] : Fin 2 → Nat) = fun _ => 0 := funext fun a => by fin_cases a <;> rfl
  have e : out0_3 x0 x1 x2 = View.canon
      [⟨r0_48, colRun (k0_pay5 x0 x1) (View.ld x2 r0_47)⟩, ⟨r0_46, colRun (k0_pay5 x0 x1) (View.ld x2 r0_45)⟩,
       ⟨r0_44, colRun (k0_pay5 x0 x1) (View.ld x2 r0_43)⟩, ⟨r0_42, colRun (k0_pay5 x0 x1) (View.ld x2 r0_41)⟩,
       ⟨r0_40, colRun (k0_pay5 x0 x1) (View.ld x2 r0_39)⟩, ⟨r0_38, colRun (k0_pay5 x0 x1) (View.ld x2 r0_37)⟩,
       ⟨r0_36, colRun (k0_pay5 x0 x1) (View.ld x2 r0_35)⟩, ⟨r0_34, colRun (k0_pay5 x0 x1) (View.ld x2 r0_33)⟩,
       ⟨r0_32, colRun (k0_pay5 x0 x1) (View.ld x2 r0_31)⟩, ⟨r0_30, colRun (k0_pay5 x0 x1) (View.ld x2 r0_29)⟩,
       ⟨r0_28, colRun (k0_pay5 x0 x1) (View.ld x2 r0_27)⟩, ⟨r0_26, colRun (k0_pay5 x0 x1) (View.ld x2 r0_25)⟩,
       ⟨r0_24, colRun (k0_pay5 x0 x1) (View.ld x2 r0_23)⟩, ⟨r0_22, colRun (k0_pay5 x0 x1) (View.ld x2 r0_21)⟩,
       ⟨r0_20, colRun (k0_pay5 x0 x1) (View.ld x2 r0_19)⟩, ⟨r0_18, colRun (k0_pay5 x0 x1) (View.ld x2 r0_17)⟩,
       ⟨r0_16, colRun (k0_pay5 x0 x1) (View.ld x2 r0_15)⟩, ⟨r0_14, colRun (k0_pay5 x0 x1) (View.ld x2 r0_13)⟩,
       ⟨r0_12, colRun (k0_pay5 x0 x1) (View.ld x2 r0_11)⟩, ⟨r0_10, colRun (k0_pay5 x0 x1) (View.ld x2 r0_9)⟩,
       ⟨r0_7, colRun (k0_pay5 x0 x1) (View.ld x2 r0_6)⟩, ⟨r0_5, colRun (k0_pay5 x0 x1) (View.ld x2 r0_4)⟩,
       ⟨r0_3, colRun (k0_pay5 x0 x1) (View.ld x2 r0_2)⟩] := by
    unfold out0_3 k0_pay26
    simp only [View.ld_unit_zero (S := S512x1024) hz, View.ld_unit_zero (S := S1x1024) hz]
    simp only [k0_pay1, k0_pay2, k0_pay3, k0_pay4, k0_pay6, k0_pay7, k0_pay8, k0_pay9, k0_pay10, k0_pay11, k0_pay12,
      k0_pay13, k0_pay14, k0_pay15, k0_pay16, k0_pay17, k0_pay18, k0_pay19, k0_pay20, k0_pay21, k0_pay22, k0_pay23, k0_pay24,
      k0_pay25, shapeCast_self]
    rfl
  rw [e]
  unfold projRow
  canon_tiles x h
  all_goals
    idx_vars x
    rw [colRun_at]
    refine Finset.sum_congr rfl fun i _ => congrArg₂ _ ?_ ?_
    · blk_point []
    · pointwise []
      blk_ext []

/-- The second result's block, at an index. -/
theorem out_kv_at (r : Fin 512) (j : Fin 256) : out0_4 x0 x1 x2 (ix2 r j)
    = projRow (fun k => x0 (ix2 r k)) (fun k => x1 (ix2 0 k)) (fun i j => x2 (ix2 i j)) ⟨512 + j.val, by omega⟩ := by
  have hz : (![0, 0] : Fin 2 → Nat) = fun _ => 0 := funext fun a => by fin_cases a <;> rfl
  have e : out0_4 x0 x1 x2 = colRun (k0_pay5 x0 x1) (View.ld x2 r0_6) := by
    unfold out0_4
    rw [View.canon_unit_zero hz]
    simp only [View.ld_unit_zero (S := S512x1024) hz, View.ld_unit_zero (S := S1x1024) hz]
    simp only [k0_pay8, shapeCast_self]
    rfl
  rw [e, colRun_at]
  refine Finset.sum_congr rfl fun i _ => congrArg₂ _ rfl ?_
  pointwise []

end Cert.Proof.In

end
-- ==== Proof.InArray.lean ====
/-
  The two arrays the input projection's call leaves.
-/
module

public import proofs.«01_k».proof.Proof.InBlock
public import proofs.«01_k».proof.Proof.Gen.InKernelIdeal.Value

@[expose] public section

set_option maxRecDepth 16384

noncomputable section

namespace Cert.Proof.In

open Idealize.ShloMosaic Idealize.ShloMosaic.TcCoe Idealize.SL.Sem Cert.InKernelIdeal Cert.InKernelIdeal.Gen

variable (m : (ℓ : Loc nD τ sig) → Buf (Elt Ideal) ℓ)

/-- Where each window's block lies: the rows move with the grid point, the weights and the gain are whole. -/
theorem idx : ∀ t : Fin cfg0.N, win0_0.index t = ![t.val, 0] ∧ win0_1.index t = ![0, 0] ∧ win0_2.index t = ![0, 0]
      ∧ win0_3.index t = ![t.val, 0] ∧ win0_4.index t = ![t.val, 0] :=
  (by decide +kernel : ∀ t : Fin grid0.N, _)

/-- The first result as one function of the argument arrays. -/
def result (x0 : FVec Ideal S32768x1024 .f32) (x1 : FVec Ideal S1024 .f32) (x2 : FVec Ideal S1024x5888 .f32) :
    FVec Ideal S32768x5888 .bf16 := fun i =>
  projRow (fun k => x0 (ix2 (i 0) k)) (fun k => x1 (ix1 k)) (fun i j => x2 (ix2 i j)) (i 1)

/-- The second result: the first one's columns 512 to 767. -/
def resultKv (x0 : FVec Ideal S32768x1024 .f32) (x1 : FVec Ideal S1024 .f32) (x2 : FVec Ideal S1024x5888 .f32) :
    FVec Ideal S32768x256 .bf16 := fun i =>
  projRow (fun k => x0 (ix2 (i 0) k)) (fun k => x1 (ix1 k)) (fun i j => x2 (ix2 i j))
    ⟨512 + (i 1).val, by have h : (i 1).val < 256 := (i 1).isLt; omega⟩

/-- Row `r` of block `t` as a row of the array. -/
abbrev row (t : Fin cfg0.N) (r : Fin 512) : Fin 32768 := ⟨t.val * 512 + r.val, by have h : t.val < 64 := t.isLt; omega⟩

variable (c : Dev nD) (t : Fin cfg0.N)

/-- A step reads its 512 rows of the activations. -/
theorem blk0 (r : Fin 512) (k : Fin 1024) :
    (iblk m c 0 t : Vec Ideal S512x1024 .f32) (ix2 r k) = m ((c : Thread nD τ).loc main_arg0) (ix2 (row t r) k) := by
  blk_ext [iblk, V, idx t]

/-- The norm's gain is read whole. -/
theorem blk1 (k : Fin 1024) :
    (iblk m c 1 t : Vec Ideal S1x1024 .f32) (ix2 0 k) = m ((c : Thread nD τ).loc main_arg1) (ix1 k) := by
  blk_point [iblk, V, idx t]

/-- The weights are read whole. -/
theorem blk2 (i : Fin 1024) (j : Fin 5888) :
    (iblk m c 2 t : Vec Ideal S1024x5888 .bf16) (ix2 i j) = m ((c : Thread nD τ).loc main_arg2) (ix2 i j) := by
  blk_point [iblk, V, idx t]

/-- Where a block index of the first result lies in its array. -/
theorem out_emb (r : Fin 512) (k : Fin 5888) : (win0_3.blk t).view.emb (ix2 r k) = ix2 (row t r) k := by
  blk_ext [idx t]

/-- Where a block index of the second result lies in its array. -/
theorem out_emb_kv (r : Fin 512) (k : Fin 256) : (win0_4.blk t).view.emb (ix2 r k) = ix2 (row t r) k := by
  blk_ext [idx t]

/-- The first array after the run. -/
theorem final : (dats m 0 c).arrAt 3 cfg0.N
    = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  idx_vars y
  rw [out_at, out_emb]
  simp only [blk0, blk1, blk2]
  rfl

/-- The second array after the run. -/
theorem final_kv : (dats m 0 c).arrAt 4 cfg0.N
    = resultKv (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  idx_vars y
  rw [out_kv_at, out_emb_kv]
  simp only [blk0, blk1, blk2]
  rfl

end Cert.Proof.In

end
-- ==== Proof.InReference.lean ====
/-
  What the input projection's reference computes, read at an index.
-/
module

public import proofs.«01_k».proof.Proof.InBlock
public import proofs.«01_k».proof.Proof.Gen.InReferenceIdeal.Read

@[expose] public section

set_option maxRecDepth 16384

noncomputable section

namespace Cert.Proof.In

open Idealize.ShloMosaic Idealize.SL.Sem Cert.InReferenceIdeal Cert.InReferenceIdeal.Gen Cert.InReferenceIdeal.Read

variable (x0 : FVec Ideal S32768x1024 .f32) (x1 : FVec Ideal S1024 .f32) (x2 : FVec Ideal S1024x5888 .f32)

/-- The row of the two-dimensional array that row `s` of sequence `b` is. -/
abbrev tok (b : Fin 16) (s : Fin 2048) : Fin 32768 := ⟨b.val * 2048 + s.val, by omega⟩

/-- The normed rows. -/
theorem refNorm_at (b : Fin 16) (s : Fin 2048) (i : Fin 1024) :
    val_main_v13 (F := Ideal) x0 x1 (ix3 b s i) = rowNorm (fun k => x0 (ix2 (tok b s) k)) (fun k => x1 (ix1 k)) i := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    rowNorm]

/-- The projected rows. -/
theorem refProj_at (b : Fin 16) (s : Fin 2048) (j : Fin 5888) : val_main_v14 (F := Ideal) x0 x1 x2 (ix3 b s j)
    = projRow (fun k => x0 (ix2 (tok b s) k)) (fun k => x1 (ix1 k)) (fun i j => x2 (ix2 i j)) j := by
  have hn : ∀ i, val_main_v13 (F := Ideal) x0 x1 (ix3 b s i)
      = rowNorm (fun k => x0 (ix2 (tok b s) k)) (fun k => x1 (ix1 k)) i := refNorm_at x0 x1 b s
  pointwise [val_main_v14, projRow]
  simp only [hn]
  try rfl

/-- The same over the rows of the two-dimensional array. -/
theorem ref_flat_at (r : Fin 32768) (j : Fin 5888) : val_main_v15 (F := Ideal) x0 x1 x2 (ix2 r j)
    = projRow (fun k => x0 (ix2 r k)) (fun k => x1 (ix1 k)) (fun i j => x2 (ix2 i j)) j := by
  have hr : tok ⟨r.val / 2048, by omega⟩ ⟨r.val % 2048, by omega⟩ = r :=
    Fin.ext (by show r.val / 2048 * 2048 + r.val % 2048 = r.val; omega)
  have hc := refProj_at x0 x1 x2 ⟨r.val / 2048, by omega⟩ ⟨r.val % 2048, by omega⟩ j
  rw [hr] at hc
  rw [val_main_v15_apply, ← hc]
  refine congrArg _ (funext fun a => ?_)
  fin_cases a <;> refine Fin.ext ?_
  · show (r.val * 5888 + j.val) / 12058624 = r.val / 2048; omega
  · show (r.val * 5888 + j.val) / 5888 % 2048 = r.val % 2048; omega
  · show (r.val * 5888 + j.val) % 5888 = j.val; omega

/-- The reference's first result. -/
theorem ref_at (r : Fin 32768) (j : Fin 5888) : val_main_v16 (F := Ideal) x0 x1 x2 (ix2 r j)
    = projRow (fun k => x0 (ix2 r k)) (fun k => x1 (ix1 k)) (fun i j => x2 (ix2 i j)) j :=
  ref_flat_at x0 x1 x2 r j

/-- The reference's second result. -/
theorem ref_kv_at (r : Fin 32768) (j : Fin 256) : val_main_v18 (F := Ideal) x0 x1 x2 (ix2 r j)
    = projRow (fun k => x0 (ix2 r k)) (fun k => x1 (ix1 k)) (fun i j => x2 (ix2 i j)) ⟨512 + j.val, by omega⟩ := by
  rw [← ref_flat_at]
  pointwise [val_main_v18, val_main_v17]

end Cert.Proof.In

end
-- ==== Proof.InClaim.lean ====
/-
  The input projection: kernel and reference end with equal results.
-/
module

public import proofs.«01_k».proof.Defs
public import proofs.«01_k».proof.Proof.InArray
public import proofs.«01_k».proof.Proof.InReference

@[expose] public section

set_option maxRecDepth 16384

noncomputable section

namespace Cert.Proof.In

open Idealize.ShloMosaic Idealize.SL.Sem

variable (x0 : FVec Ideal Cert.InKernelIdeal.S32768x1024 .f32) (x1 : FVec Ideal Cert.InKernelIdeal.S1024 .f32)
    (x2 : FVec Ideal Cert.InKernelIdeal.S1024x5888 .f32)

/-- The reference's first result is the same function of the arguments as the kernel's. -/
theorem ref_eq : Cert.InReferenceIdeal.Read.val_main_v16 (F := Ideal) x0 x1 x2 = result x0 x1 x2 := by
  funext i
  idx_vars i
  exact ref_at x0 x1 x2 _ _

/-- So is the second. -/
theorem ref_kv_eq : Cert.InReferenceIdeal.Read.val_main_v18 (F := Ideal) x0 x1 x2 = resultKv x0 x1 x2 := by
  funext i
  idx_vars i
  exact ref_kv_at x0 x1 x2 _ _

/-- The input projection's kernel and its reference, idealized, end with equal results. -/
theorem algebraic : Cert.algebraic_InKernelIdeal_InReferenceIdeal
    (hInKernelIdeal := Cert.InKernelIdeal.Gen.facts) (hInReferenceIdeal := Cert.InReferenceIdeal.Gen.facts) := by
  intro m g m' g' _ h
  refine ⟨fun c => (Cert.InKernelIdeal.Gen.dats m 0 c).arrAt 3 Cert.InKernelIdeal.cfg0.N,
    fun c => (Cert.InKernelIdeal.Gen.dats m 0 c).arrAt 4 Cert.InKernelIdeal.cfg0.N,
    Cert.InKernelIdeal.Value.run_blocks m g, ?_⟩
  refine (θ_run _ _ _).mono (fun r hr c => ⟨(hr c).1.trans ?_, (hr c).2.1.trans ?_, (hr c).2.2⟩)
    (Cert.InReferenceIdeal.Value.run m' g')
  · obtain ⟨h0, h1, h2⟩ := h c
    refine Eq.trans ?_ (final m c).symm
    rw [h0, h1, h2]
    refine (Cert.InReferenceIdeal.Read.val_main_v16_eq (F := Ideal) _ _ _).trans ?_
    exact ref_eq _ _ _
  · obtain ⟨h0, h1, h2⟩ := h c
    refine Eq.trans ?_ (final_kv m c).symm
    rw [h0, h1, h2]
    refine (Cert.InReferenceIdeal.Read.val_main_v18_eq (F := Ideal) _ _ _).trans ?_
    exact ref_kv_eq _ _ _

end Cert.Proof.In

end
-- ==== Proof.FfnBlock.lean ====
/-
  What the feed-forward kernel's body leaves in its output block: row by row, the closing norm of the feed-forward of the
  input block's row. The body goes through the 2816 hidden columns in eleven runs of 256.
-/
module

public import proofs.«01_k».proof.Proof.RowFns
public import proofs.«01_k».proof.Proof.Gen.FfnKernelIdeal.Frame

@[expose] public section

set_option maxRecDepth 16384

noncomputable section

namespace Cert.Proof.Ffn

open Idealize.ShloMosaic Idealize.SL.Sem Cert.FfnKernelIdeal Cert.FfnKernelIdeal.Gen

/-- One run of 256 hidden columns added to the accumulator: the gated hidden block, times its rows of the last weights. -/
def addRun (h : FVec Ideal S512x1024 .bf16) (acc : FVec Ideal S512x1024 .f32) (wg wu : FVec Ideal S1024x256 .bf16)
    (wd : FVec Ideal S256x1024 .bf16) : FVec Ideal S512x1024 .f32 :=
  let a : FVec Ideal S512x256 .f32 := matmul dot_S512x1024_S1024x256_S512x256_1_0_0_1_n_n none h wg (constant S512x256 .f32 0x00000000#32)
  let b : FVec Ideal S512x256 .f32 := matmul dot_S512x1024_S1024x256_S512x256_1_0_0_1_n_n none h wu (constant S512x256 .f32 0x00000000#32)
  addf acc (matmul dot_S512x256_S256x1024_S512x1024_1_0_0_1_n_n none
    (truncf .bf16 (mulf (mulf a (logistic a)) b) bitsLt_bf16_f32) wd (constant S512x1024 .f32 0x00000000#32))

/-- The closing norm of a block's rows. -/
def closeNorm (y : FVec Ideal S512x1024 .f32) (g : FVec Ideal S1x1024 .f32) : FVec Ideal S512x1024 .f32 :=
  mulf (mulf y (broadcastTo S512x1024 (rsqrt (addf (divf (shapeCast S512x1
      (multiReduction .add [1] S512 (mulf y y) 0x00000000#32 reduces_S512x1024_S512 (.inl rfl) rfl) shapeCasts_S512_S512x1)
      (broadcast S512x1 (Scalar.ofBits .f32 0x44800000#32))) (broadcast S512x1 (Scalar.ofBits .f32 0x358637BD#32))))
    broadcasts_S512x1_S512x1024)) (broadcastTo S512x1024 g broadcasts_S1x1024_S512x1024)

/-- The rows the products read: the norm of the block's rows. -/
theorem hid_at (x : FVec Ideal S512x1024 .f32) (g : FVec Ideal S1x1024 .f32) (r : Fin 512) (i : Fin 1024) :
    k0_pay1 (F := Ideal) x g (ix2 r i) = rowNorm (fun k => x (ix2 r k)) (fun k => g (ix2 0 k)) i := by
  pointwise [k0_pay1, rowNorm]

/-- The final norm of a block at an index. -/
theorem closeNorm_at (y : FVec Ideal S512x1024 .f32) (g : FVec Ideal S1x1024 .f32) (r : Fin 512) (i : Fin 1024) :
    closeNorm y g (ix2 r i) = rowNorm (fun k => y (ix2 r k)) (fun k => g (ix2 0 k)) i := by
  pointwise [closeNorm, rowNorm]

/-- One run at an index: the accumulator plus the run's 256 terms. -/
theorem addRun_at (h : FVec Ideal S512x1024 .bf16) (acc : FVec Ideal S512x1024 .f32) (wg wu : FVec Ideal S1024x256 .bf16)
    (wd : FVec Ideal S256x1024 .bf16) (r : Fin 512) (d : Fin 1024) :
    addRun h acc wg wu wd (ix2 r d) = acc (ix2 r d)
      + ∑ k : Fin 256, gated (fun i => h (ix2 r i)) (fun i => wg (ix2 i k)) (fun i => wu (ix2 i k)) * wd (ix2 k d) := by
  pointwise [addRun, gated]

/-- The block a step writes, as the operations above. -/
theorem out_eq (x0 : Vec Ideal S512x1024 .f32) (x1 : Vec Ideal S1x1024 .f32) (x2 x3 : Vec Ideal S1024x2816 .bf16)
    (x4 : Vec Ideal S2816x1024 .bf16) (x5 : Vec Ideal S1x1024 .f32) :
    out0_6 x0 x1 x2 x3 x4 x5 = closeNorm
      (addRun (k0_pay1 x0 x1) (addRun (k0_pay1 x0 x1) (addRun (k0_pay1 x0 x1) (addRun (k0_pay1 x0 x1) (addRun (k0_pay1 x0 x1)
      (addRun (k0_pay1 x0 x1) (addRun (k0_pay1 x0 x1) (addRun (k0_pay1 x0 x1) (addRun (k0_pay1 x0 x1) (addRun (k0_pay1 x0 x1)
      (addRun (k0_pay1 x0 x1) x0
        (View.ld x2 r0_2) (View.ld x3 r0_2) (View.ld x4 r0_3))
        (View.ld x2 r0_4) (View.ld x3 r0_4) (View.ld x4 r0_5))
        (View.ld x2 r0_6) (View.ld x3 r0_6) (View.ld x4 r0_7))
        (View.ld x2 r0_8) (View.ld x3 r0_8) (View.ld x4 r0_9))
        (View.ld x2 r0_10) (View.ld x3 r0_10) (View.ld x4 r0_11))
        (View.ld x2 r0_12) (View.ld x3 r0_12) (View.ld x4 r0_13))
        (View.ld x2 r0_14) (View.ld x3 r0_14) (View.ld x4 r0_15))
        (View.ld x2 r0_16) (View.ld x3 r0_16) (View.ld x4 r0_17))
        (View.ld x2 r0_18) (View.ld x3 r0_18) (View.ld x4 r0_19))
        (View.ld x2 r0_20) (View.ld x3 r0_20) (View.ld x4 r0_21))
        (View.ld x2 r0_22) (View.ld x3 r0_22) (View.ld x4 r0_23)) x5 := by
  have hz : (![0, 0] : Fin 2 → Nat) = fun _ => 0 := funext fun a => by fin_cases a <;> rfl
  unfold out0_6 k0_pay13
  rw [View.canon_unit_zero hz]
  simp only [View.ld_unit_zero (S := S512x1024) hz, View.ld_unit_zero (S := S1x1024) hz]
  simp only [k0_pay2, k0_pay3, k0_pay4, k0_pay5, k0_pay6, k0_pay7, k0_pay8, k0_pay9, k0_pay10, k0_pay11, k0_pay12,
    shapeCast_self]
  rfl

/-- The output block at an index: the closing norm of the feed-forward of the block's row. -/
theorem out_at (x0 : Vec Ideal S512x1024 .f32) (x1 : Vec Ideal S1x1024 .f32) (x2 x3 : Vec Ideal S1024x2816 .bf16)
    (x4 : Vec Ideal S2816x1024 .bf16) (x5 : Vec Ideal S1x1024 .f32) (r : Fin 512) (i : Fin 1024) :
    out0_6 x0 x1 x2 x3 x4 x5 (ix2 r i)
      = rowNorm (ffnRow (fun k => x0 (ix2 r k)) (fun k => x1 (ix2 0 k)) (fun i j => x2 (ix2 i j)) (fun i j => x3 (ix2 i j))
          (fun j d => x4 (ix2 j d))) (fun k => x5 (ix2 0 k)) i := by
  rw [out_eq, closeNorm_at]
  congr 1
  funext d
  have hh : (fun i => k0_pay1 (F := Ideal) x0 x1 (ix2 r i)) = rowNorm (fun k => x0 (ix2 r k)) (fun k => x1 (ix2 0 k)) :=
    funext fun i => hid_at x0 x1 r i
  simp only [addRun_at]
  rw [hh]
  unfold ffnRow
  rw [sum_in_runs]
  pointwise []

end Cert.Proof.Ffn

end
-- ==== Proof.FfnArray.lean ====
/-
  The array the feed-forward call leaves: at every row and column, the normed feed-forward of that row.
-/
module

public import proofs.«01_k».proof.Proof.FfnBlock
public import proofs.«01_k».proof.Proof.Gen.FfnKernelIdeal.Value

@[expose] public section

set_option maxRecDepth 16384

noncomputable section

namespace Cert.Proof.Ffn

open Idealize.ShloMosaic Idealize.ShloMosaic.TcCoe Idealize.SL.Sem Cert.FfnKernelIdeal Cert.FfnKernelIdeal.Gen

variable (m : (ℓ : Loc nD τ sig) → Buf (Elt Ideal) ℓ)

/-- Where each window's block lies: the rows move with the grid point, the weights and gains are whole. -/
theorem idx : ∀ t : Fin cfg0.N, win0_0.index t = ![t.val, 0] ∧ win0_1.index t = ![0, 0] ∧ win0_2.index t = ![0, 0]
      ∧ win0_3.index t = ![0, 0] ∧ win0_4.index t = ![0, 0] ∧ win0_5.index t = ![0, 0] ∧ win0_6.index t = ![t.val, 0] :=
  (by decide +kernel : ∀ t : Fin grid0.N, _)

/-- The result as one function of the argument arrays. -/
def result (x0 : FVec Ideal S32768x1024 .f32) (x1 : FVec Ideal S1024 .f32) (x2 x3 : FVec Ideal S1024x2816 .f32)
    (x4 : FVec Ideal S2816x1024 .f32) (x5 : FVec Ideal S1024 .f32) : FVec Ideal S32768x1024 .f32 := fun i =>
  rowNorm (ffnRow (fun k => x0 (ix2 (i 0) k)) (fun k => x1 (ix1 k)) (fun i j => x2 (ix2 i j)) (fun i j => x3 (ix2 i j))
    (fun j k => x4 (ix2 j k))) (fun k => x5 (ix1 k)) (i 1)

/-- Row `r` of block `t` as a row of the array. -/
abbrev row (t : Fin cfg0.N) (r : Fin 512) : Fin 32768 := ⟨t.val * 512 + r.val, by have h : t.val < 64 := t.isLt; omega⟩

variable (c : Dev nD) (t : Fin cfg0.N)

/-- A step reads its 512 rows of the activations. -/
theorem blk0 (r : Fin 512) (k : Fin 1024) :
    (iblk m c 0 t : Vec Ideal S512x1024 .f32) (ix2 r k) = m ((c : Thread nD τ).loc main_arg0) (ix2 (row t r) k) := by
  blk_ext [iblk, V, idx t]

/-- The norm's gain is read whole. -/
theorem blk1 (k : Fin 1024) :
    (iblk m c 1 t : Vec Ideal S1x1024 .f32) (ix2 0 k) = m ((c : Thread nD τ).loc main_arg1) (ix1 k) := by
  blk_point [iblk, V, idx t]

/-- The gate weights are read whole. -/
theorem blk2 (i : Fin 1024) (j : Fin 2816) :
    (iblk m c 2 t : Vec Ideal S1024x2816 .bf16) (ix2 i j) = m ((c : Thread nD τ).loc main_arg2) (ix2 i j) := by
  blk_point [iblk, V, idx t]

/-- The up weights are read whole. -/
theorem blk3 (i : Fin 1024) (j : Fin 2816) :
    (iblk m c 3 t : Vec Ideal S1024x2816 .bf16) (ix2 i j) = m ((c : Thread nD τ).loc main_arg3) (ix2 i j) := by
  blk_point [iblk, V, idx t]

/-- The down weights are read whole. -/
theorem blk4 (j : Fin 2816) (k : Fin 1024) :
    (iblk m c 4 t : Vec Ideal S2816x1024 .bf16) (ix2 j k) = m ((c : Thread nD τ).loc main_arg4) (ix2 j k) := by
  blk_point [iblk, V, idx t]

/-- The final norm's gain is read whole. -/
theorem blk5 (k : Fin 1024) :
    (iblk m c 5 t : Vec Ideal S1x1024 .f32) (ix2 0 k) = m ((c : Thread nD τ).loc main_arg5) (ix1 k) := by
  blk_point [iblk, V, idx t]

/-- Where a block index of the output lies in its array. -/
theorem out_emb (r : Fin 512) (k : Fin 1024) : (win0_6.blk t).view.emb (ix2 r k) = ix2 (row t r) k := by
  blk_ext [idx t]

/-- The array after the run. -/
theorem final : (dats m 0 c).arrAt 6 cfg0.N
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  idx_vars y
  rw [out_at, out_emb]
  simp only [blk0, blk1, blk2, blk3, blk4, blk5]
  rfl

end Cert.Proof.Ffn

end
-- ==== Proof.FfnReference.lean ====
/-
  What the feed-forward's reference computes, read at an index.
-/
module

public import proofs.«01_k».proof.Proof.RowFns
public import proofs.«01_k».proof.Proof.Gen.FfnReferenceIdeal.Read

@[expose] public section

set_option maxRecDepth 16384

noncomputable section

namespace Cert.Proof.Ffn

open Idealize.ShloMosaic Idealize.SL.Sem Cert.FfnReferenceIdeal Cert.FfnReferenceIdeal.Gen Cert.FfnReferenceIdeal.Read

variable (x0 : FVec Ideal S32768x1024 .f32) (x1 : FVec Ideal S1024 .f32) (x2 x3 : FVec Ideal S1024x2816 .f32)
  (x4 : FVec Ideal S2816x1024 .f32) (x5 : FVec Ideal S1024 .f32)

/-- The row of the two-dimensional array that row `s` of sequence `b` is. -/
abbrev tok (b : Fin 16) (s : Fin 2048) : Fin 32768 := ⟨b.val * 2048 + s.val, by omega⟩

/-- The normed rows. -/
theorem refNorm_at (b : Fin 16) (s : Fin 2048) (i : Fin 1024) :
    val_main_v13 (F := Ideal) x0 x1 (ix3 b s i) = rowNorm (fun k => x0 (ix2 (tok b s) k)) (fun k => x1 (ix1 k)) i := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    rowNorm]

/-- The gated hidden numbers. -/
theorem refGated_at (b : Fin 16) (s : Fin 2048) (j : Fin 2816) :
    val_main_v17 (F := Ideal) x0 x1 x2 x3 (ix3 b s j)
      = gated (rowNorm (fun k => x0 (ix2 (tok b s) k)) (fun k => x1 (ix1 k))) (fun i => x2 (ix2 i j)) (fun i => x3 (ix2 i j)) := by
  have hn : ∀ i, val_main_v13 (F := Ideal) x0 x1 (ix3 b s i)
      = rowNorm (fun k => x0 (ix2 (tok b s) k)) (fun k => x1 (ix1 k)) i := refNorm_at x0 x1 b s
  pointwise [val_main_v17, val_main_v16, val_main_v15, val_main_v14, val_main_call0_v0, val_main_call0_v1, val_main_call0_v2,
    val_main_call0_v3, val_main_call0_v4, val_main_call0_v5, val_main_call0_cst, val_main_call0_cst_0, gated]
  simp only [hn]
  try rfl

/-- The row after the residual. -/
theorem refRow_at (b : Fin 16) (s : Fin 2048) (d : Fin 1024) :
    val_main_v19 (F := Ideal) x0 x1 x2 x3 x4 (ix3 b s d)
      = ffnRow (fun k => x0 (ix2 (tok b s) k)) (fun k => x1 (ix1 k)) (fun i j => x2 (ix2 i j)) (fun i j => x3 (ix2 i j))
          (fun j k => x4 (ix2 j k)) d := by
  have hg : ∀ j, val_main_v17 (F := Ideal) x0 x1 x2 x3 (ix3 b s j)
      = gated (rowNorm (fun k => x0 (ix2 (tok b s) k)) (fun k => x1 (ix1 k))) (fun i => x2 (ix2 i j)) (fun i => x3 (ix2 i j)) :=
    refGated_at x0 x1 x2 x3 b s
  pointwise [val_main_v19, val_main_v18, val_main_v0, ffnRow]
  simp only [hg]
  try rfl

/-- The closing norm. -/
theorem refClose_at (b : Fin 16) (s : Fin 2048) (d : Fin 1024) :
    val_main_v32 (F := Ideal) x0 x1 x2 x3 x4 x5 (ix3 b s d)
      = rowNorm (ffnRow (fun k => x0 (ix2 (tok b s) k)) (fun k => x1 (ix1 k)) (fun i j => x2 (ix2 i j)) (fun i j => x3 (ix2 i j))
          (fun j k => x4 (ix2 j k))) (fun k => x5 (ix1 k)) d := by
  have hr : ∀ i, val_main_v19 (F := Ideal) x0 x1 x2 x3 x4 (ix3 b s i)
      = ffnRow (fun k => x0 (ix2 (tok b s) k)) (fun k => x1 (ix1 k)) (fun i j => x2 (ix2 i j)) (fun i j => x3 (ix2 i j))
          (fun j k => x4 (ix2 j k)) i := refRow_at x0 x1 x2 x3 x4 b s
  pointwise [val_main_v32, val_main_v31, val_main_v30, val_main_v29, val_main_v28, val_main_v27, val_main_v26, val_main_v25,
    val_main_v24, val_main_v23, val_main_v22, val_main_v21, val_main_v20, val_main_cst_2, val_main_cst_3, val_main_cst_4, rowNorm]
  simp only [hr]
  try rfl

/-- The reference's result, read at row `r` and column `d`: the feed-forward of that row, normed. -/
theorem ref_at (r : Fin 32768) (d : Fin 1024) :
    val_main_v33 (F := Ideal) x0 x1 x2 x3 x4 x5 (ix2 r d)
      = rowNorm (ffnRow (fun k => x0 (ix2 r k)) (fun k => x1 (ix1 k)) (fun i j => x2 (ix2 i j)) (fun i j => x3 (ix2 i j))
          (fun j k => x4 (ix2 j k))) (fun k => x5 (ix1 k)) d := by
  have hr : tok ⟨r.val / 2048, by omega⟩ ⟨r.val % 2048, by omega⟩ = r := Fin.ext (by show r.val / 2048 * 2048 + r.val % 2048 = r.val; omega)
  have hc := refClose_at x0 x1 x2 x3 x4 x5 ⟨r.val / 2048, by omega⟩ ⟨r.val % 2048, by omega⟩ d
  rw [hr] at hc
  rw [val_main_v33_apply, ← hc]
  refine congrArg _ (funext fun a => ?_)
  fin_cases a <;> refine Fin.ext ?_
  · show (r.val * 1024 + d.val) / 2097152 = r.val / 2048; omega
  · show (r.val * 1024 + d.val) / 1024 % 2048 = r.val % 2048; omega
  · show (r.val * 1024 + d.val) % 1024 = d.val; omega

end Cert.Proof.Ffn

end
-- ==== Proof.FfnClaim.lean ====
/-
  The feed-forward: kernel and reference end with equal results.
-/
module

public import proofs.«01_k».proof.Defs
public import proofs.«01_k».proof.Proof.FfnArray
public import proofs.«01_k».proof.Proof.FfnReference

@[expose] public section

set_option maxRecDepth 16384

noncomputable section

namespace Cert.Proof.Ffn

open Idealize.ShloMosaic Idealize.SL.Sem

/-- The reference's result is the same function of the arguments as the kernel's. -/
theorem ref_eq (x0 : FVec Ideal Cert.FfnKernelIdeal.S32768x1024 .f32) (x1 : FVec Ideal Cert.FfnKernelIdeal.S1024 .f32)
    (x2 x3 : FVec Ideal Cert.FfnKernelIdeal.S1024x2816 .f32) (x4 : FVec Ideal Cert.FfnKernelIdeal.S2816x1024 .f32)
    (x5 : FVec Ideal Cert.FfnKernelIdeal.S1024 .f32) :
    Cert.FfnReferenceIdeal.Read.val_main_v33 (F := Ideal) x0 x1 x2 x3 x4 x5 = result x0 x1 x2 x3 x4 x5 := by
  funext i
  idx_vars i
  exact ref_at x0 x1 x2 x3 x4 x5 _ _

/-- The feed-forward's kernel and its reference, idealized, end with equal results. -/
theorem algebraic : Cert.algebraic_FfnKernelIdeal_FfnReferenceIdeal
    (hFfnKernelIdeal := Cert.FfnKernelIdeal.Gen.facts) (hFfnReferenceIdeal := Cert.FfnReferenceIdeal.Gen.facts) := by
  intro m g m' g' _ h
  refine ⟨fun c => (Cert.FfnKernelIdeal.Gen.dats m 0 c).arrAt 6 Cert.FfnKernelIdeal.cfg0.N,
    Cert.FfnKernelIdeal.Value.run_blocks m g, ?_⟩
  refine (θ_run _ _ _).mono (fun r hr c => ⟨(hr c).1.trans ?_, (hr c).2⟩) (Cert.FfnReferenceIdeal.Value.run m' g')
  obtain ⟨h0, h1, h2, h3, h4, h5⟩ := h c
  refine Eq.trans ?_ (final m c).symm
  rw [Cert.FfnReferenceIdeal.Read.val_main_v33_eq m' c, h0, h1, h2, h3, h4, h5]
  exact ref_eq _ _ _ _ _ _

end Cert.Proof.Ffn

end
-- ==== Proof.MixOps.lean ====
/-
  The operations of the mixer's body, each once: one chunk of the attention for one key head, one chunk of the retention for one
  head, its state, the head norm with its gate, and the merge of a block.
-/
module

public import proofs.«01_k».proof.Proof.Gen.KernelIdeal.Frame
public import Idealize.ShloMosaic.Lib.Pipeline.ValueKit

@[expose] public section

set_option maxRecDepth 16384

noncomputable section

namespace Cert.Proof.Mix

open Idealize.ShloMosaic Idealize.ShloMosaic.TcCoe Cert.KernelIdeal Cert.KernelIdeal.Gen Cert.KernelIdeal.Facts

/-- Keys (or values) of two chunks, one under the other. -/
def pair (p q : FVec Ideal S128x256 .bf16) : FVec Ideal S256x256 .bf16 :=
  concatenate S256x256 0 [⟨S128x256, p⟩, ⟨S128x256, q⟩] concatenates_S128x256_S128x256_S256x256_d0

/-- Four 64-wide column blocks, one under the other. -/
def stack (a b c d : FVec Ideal S128x64 .bf16) : FVec Ideal S512x64 .bf16 :=
  concatenate S512x64 0 [⟨S128x64, a⟩, ⟨S128x64, b⟩, ⟨S128x64, c⟩, ⟨S128x64, d⟩]
    concatenates_S128x64_S128x64_S128x64_S128x64_S512x64_d0

/-- The queries of key head 0, its four heads one under the other. -/
def queries0 (q : FVec Ideal S128x512 .bf16) : FVec Ideal S512x64 .bf16 :=
  stack (extractStridedSlice S128x64 ![0, 0] q slices_S128x512_o0_0_S128x64)
    (extractStridedSlice S128x64 ![0, 64] q slices_S128x512_o0_64_S128x64)
    (extractStridedSlice S128x64 ![0, 128] q slices_S128x512_o0_128_S128x64)
    (extractStridedSlice S128x64 ![0, 192] q slices_S128x512_o0_192_S128x64)

/-- The queries of key head 1. -/
def queries1 (q : FVec Ideal S128x512 .bf16) : FVec Ideal S512x64 .bf16 :=
  stack (extractStridedSlice S128x64 ![0, 256] q slices_S128x512_o0_256_S128x64)
    (extractStridedSlice S128x64 ![0, 320] q slices_S128x512_o0_320_S128x64)
    (extractStridedSlice S128x64 ![0, 384] q slices_S128x512_o0_384_S128x64)
    (extractStridedSlice S128x64 ![0, 448] q slices_S128x512_o0_448_S128x64)

/-- The keys and values of the two key heads, out of the paired chunks. -/
def keys0 (kv : FVec Ideal S256x256 .bf16) : FVec Ideal S256x64 .bf16 :=
  extractStridedSlice S256x64 ![0, 0] kv slices_S256x256_o0_0_S256x64
/-- The keys of key head 1. -/
def keys1 (kv : FVec Ideal S256x256 .bf16) : FVec Ideal S256x64 .bf16 :=
  extractStridedSlice S256x64 ![0, 64] kv slices_S256x256_o0_64_S256x64
/-- The values of key head 0. -/
def values0 (kv : FVec Ideal S256x256 .bf16) : FVec Ideal S256x64 .bf16 :=
  extractStridedSlice S256x64 ![0, 128] kv slices_S256x256_o0_128_S256x64
/-- The values of key head 1. -/
def values1 (kv : FVec Ideal S256x256 .bf16) : FVec Ideal S256x64 .bf16 :=
  extractStridedSlice S256x64 ![0, 192] kv slices_S256x256_o0_192_S256x64

/-- Scaled products of queries and keys, with the table of distances. -/
def scores (q : FVec Ideal S512x64 .bf16) (k : FVec Ideal S256x64 .bf16) (b : FVec Ideal S1x512x256 .f32) :
    FVec Ideal S512x256 .f32 :=
  addf (mulf (matmul dot_S512x64_S256x64_S512x256_1_1_0_0_n_n none q k (constant S512x256 .f32 0x00000000#32))
      (broadcast S512x256 (Scalar.ofBits .f32 0x3E000000#32)))
    (shapeCast S512x256 b shapeCasts_S1x512x256_S512x256)

/-- The scores of a block's first chunk: a row of masks is added. -/
def hide (s : FVec Ideal S512x256 .f32) (f : FVec Ideal S1x256 .f32) : FVec Ideal S512x256 .f32 :=
  addf s (broadcastTo S512x256 f broadcasts_S1x256_S512x256)

/-- The greatest score of a row, its sink among them. -/
def top (s : FVec Ideal S512x256 .f32) (n : FVec Ideal S1x512x1 .f32) : FVec Ideal S512x1 .f32 :=
  maximumf (shapeCast S512x1 (multiReduction .maximumf [1] S512 s 0xFF800000#32 reduces_S512x256_S512 (.inl rfl) rfl)
    shapeCasts_S512_S512x1) (shapeCast S512x1 n shapeCasts_S1x512x1_S512x1)

/-- The exponentials of a row's scores under its greatest. -/
def weights (s : FVec Ideal S512x256 .f32) (n : FVec Ideal S1x512x1 .f32) : FVec Ideal S512x256 .f32 :=
  exp (subf s (broadcastTo S512x256 (top s n) broadcasts_S512x1_S512x256))

/-- The weighted sum of the values over the sum of the weights and the sink's. -/
def attend (s : FVec Ideal S512x256 .f32) (v : FVec Ideal S256x64 .bf16) (n : FVec Ideal S1x512x1 .f32) :
    FVec Ideal S512x64 .f32 :=
  divf (matmul dot_S512x256_S256x64_S512x64_1_0_0_1_n_n none (truncf .bf16 (weights s n) bitsLt_bf16_f32) v
      (constant S512x64 .f32 0x00000000#32))
    (broadcastTo S512x64 (addf (shapeCast S512x1 (multiReduction .add [1] S512 (weights s n) 0x00000000#32
        reduces_S512x256_S512 (.inl rfl) rfl) shapeCasts_S512_S512x1)
      (exp (subf (shapeCast S512x1 n shapeCasts_S1x512x1_S512x1) (top s n)))) broadcasts_S512x1_S512x64)

/-- The eight heads of a chunk side by side. -/
def sideBySide (a b : FVec Ideal S512x64 .f32) : FVec Ideal S128x512 .bf16 :=
  shapeCast S128x512 (truncf .bf16 (concatenate S128x512 1
    [⟨S128x64, extractStridedSlice S128x64 ![0, 0] a slices_S512x64_o0_0_S128x64⟩,
     ⟨S128x64, extractStridedSlice S128x64 ![128, 0] a slices_S512x64_o128_0_S128x64⟩,
     ⟨S128x64, extractStridedSlice S128x64 ![256, 0] a slices_S512x64_o256_0_S128x64⟩,
     ⟨S128x64, extractStridedSlice S128x64 ![384, 0] a slices_S512x64_o384_0_S128x64⟩,
     ⟨S128x64, extractStridedSlice S128x64 ![0, 0] b slices_S512x64_o0_0_S128x64⟩,
     ⟨S128x64, extractStridedSlice S128x64 ![128, 0] b slices_S512x64_o128_0_S128x64⟩,
     ⟨S128x64, extractStridedSlice S128x64 ![256, 0] b slices_S512x64_o256_0_S128x64⟩,
     ⟨S128x64, extractStridedSlice S128x64 ![384, 0] b slices_S512x64_o384_0_S128x64⟩]
    concatenates_S128x64_S128x64_S128x64_S128x64_S128x64_S128x64_S128x64_S128x64_S128x512_d1) bitsLt_bf16_f32)
    shapeCasts_S128x512_S128x512

/-- The retention of a chunk: the decayed products inside it, and the state that enters it. -/
def retain (q k : FVec Ideal S128x128 .bf16) (v : FVec Ideal S128x256 .bf16) (st : FVec Ideal S1x128x256 .f32)
    (di : FVec Ideal S1x128x128 .f32) (dq : FVec Ideal S1x128x1 .f32) : FVec Ideal S128x256 .f32 :=
  addf (matmul dot_S128x128_S128x256_S128x256_1_0_0_1_n_n none
      (truncf .bf16 (mulf (matmul dot_S128x128_S128x128_S128x128_1_1_0_0_n_n none q k (constant S128x128 .f32 0x00000000#32))
        (shapeCast S128x128 di shapeCasts_S1x128x128_S128x128)) bitsLt_bf16_f32) v (constant S128x256 .f32 0x00000000#32))
    (mulf (matmul dot_S128x128_S128x256_S128x256_1_0_0_1_n_n none q
        (truncf .bf16 (shapeCast S128x256 st shapeCasts_S1x128x256_S128x256) bitsLt_bf16_f32)
        (constant S128x256 .f32 0x00000000#32))
      (broadcastTo S128x256 (shapeCast S128x1 dq shapeCasts_S1x128x1_S128x1) broadcasts_S128x1_S128x256))

/-- The state that leaves a chunk. -/
def carry (k : FVec Ideal S128x128 .bf16) (v : FVec Ideal S128x256 .bf16) (st : FVec Ideal S1x128x256 .f32)
    (dk : FVec Ideal S1x128x1 .f32) (dc : Elt Ideal .f32) : FVec Ideal S1x128x256 .f32 :=
  shapeCast S1x128x256 (addf (mulf (broadcast S128x256 dc) (shapeCast S128x256 st shapeCasts_S1x128x256_S128x256))
    (matmul dot_S128x128_S128x256_S128x256_0_0_1_1_n_n none
      (truncf .bf16 (mulf (extf .f32 k bitsLt_bf16_f32)
        (broadcastTo S128x128 (shapeCast S128x1 dk shapeCasts_S1x128x1_S128x1) broadcasts_S128x1_S128x128)) bitsLt_bf16_f32)
      v (constant S128x256 .f32 0x00000000#32))) shapeCasts_S128x256_S1x128x256

/-- The mean of each row. -/
def mean (o : FVec Ideal S128x256 .f32) : FVec Ideal S128x1 .f32 :=
  divf (shapeCast S128x1 (multiReduction .add [1] S128 o 0x00000000#32 reduces_S128x256_S128 (.inl rfl) rfl)
    shapeCasts_S128_S128x1) (broadcast S128x1 (Scalar.ofBits .f32 0x43800000#32))

/-- A row less its mean. -/
def centre (o : FVec Ideal S128x256 .f32) : FVec Ideal S128x256 .f32 :=
  subf o (broadcastTo S128x256 (mean o) broadcasts_S128x1_S128x256)

/-- A head's rows centred and scaled to unit variance, times the gain and the swish of the gate. -/
def gate (o : FVec Ideal S128x256 .f32) (g : FVec Ideal S1x256 .f32) (r : FVec Ideal S128x256 .bf16) :
    FVec Ideal S128x256 .bf16 :=
  shapeCast S128x256 (truncf .bf16 (mulf
    (mulf (mulf (centre o) (broadcastTo S128x256 (rsqrt (addf (mean (mulf (centre o) (centre o)))
        (broadcast S128x1 (Scalar.ofBits .f32 0x358637BD#32)))) broadcasts_S128x1_S128x256))
      (broadcastTo S128x256 (shapeCast S1x256 g shapeCasts_S1x256_S1x256) broadcasts_S1x256_S128x256))
    (mulf (extf .f32 r bitsLt_bf16_f32) (logistic (extf .f32 r bitsLt_bf16_f32)))) bitsLt_bf16_f32)
    shapeCasts_S128x256_S128x256

/-! ## One block: its chunks and heads by number -/

section block

variable (x0 : FVec Ideal S512x5888 .bf16) (x1 : FVec Ideal S128x256 .bf16) (x3 : FVec Ideal S2x512x256 .f32)
  (x5 : FVec Ideal S2x512x1 .f32) (x6 : FVec Ideal S4x128x128 .f32) (x7 x8 : FVec Ideal S4x128x1 .f32)
  (x9 : FVec Ideal S4 .f32) (x10 : FVec Ideal S1x1024 .f32) (st : FVec Ideal S4x128x256 .f32)

/-- Columns `o … o + w` of chunk `c` of the block. -/
abbrev cut (c : Fin 4) (o w : ℕ) (h : o + w ≤ 5888) : FVec Ideal ⟨2, ![128, w]⟩ .bf16 :=
  View.ld (Val := Elt Ideal) (e' := .bf16) x0 (Rect.unit (s := S512x5888) ![128 * c.val, o] ![128, w]
    (Fin.forall_fin_two.mpr ⟨by have := c.isLt; change 128 * c.val + 128 ≤ 512; omega, h⟩))

/-- Row `h` of a table of four heads. -/
abbrev slab (h : Fin 4) {a b : ℕ} (x : FVec Ideal ⟨3, ![4, a, b]⟩ .f32) : FVec Ideal ⟨3, ![1, a, b]⟩ .f32 :=
  View.ld (Val := Elt Ideal) (e' := .f32) x (Rect.unit (s := ⟨3, ![4, a, b]⟩) ![h.val, 0, 0] ![1, a, b]
    (fun i => by have := h.isLt; fin_cases i <;> first | (change h.val + 1 ≤ 4; omega) | exact (Nat.zero_add _).le))

/-- The state of head `h` after `n` chunks of the block. -/
def states (h : Fin 4) : ℕ → FVec Ideal S1x128x256 .f32
  | 0 => slab h st
  | n + 1 => carry (cut x0 (Fin.ofNat 4 n) (1280 + 128 * h.val) 128 (by omega))
      (cut x0 (Fin.ofNat 4 n) (1792 + 256 * h.val) 256 (by omega)) (states h n) (slab h x8) (View.ld (Val := Elt Ideal) (e' := .f32) x9 (Rect.unit (s := S4) ![h.val] ![1]
        (fun i => by have := h.isLt; fin_cases i; change h.val + 1 ≤ 4; omega)) (Shape.Idx.first (s := ⟨1, ![1]⟩) (by decide)))

/-- Head `h` of chunk `c`, gated. -/
def head (c h : Fin 4) : FVec Ideal S128x256 .bf16 :=
  gate (retain (cut x0 c (768 + 128 * h.val) 128 (by omega)) (cut x0 c (1280 + 128 * h.val) 128 (by omega))
      (cut x0 c (1792 + 256 * h.val) 256 (by omega)) (states x0 x8 x9 st h c.val) (slab h x6) (slab h x7))
    (View.ld (Val := Elt Ideal) (e' := .f32) x10 (Rect.unit (s := S1x1024) ![0, 256 * h.val] ![1, 256]
      (Fin.forall_fin_two.mpr ⟨(Nat.zero_add _).le, by have := h.isLt; change 256 * h.val + 256 ≤ 1024; omega⟩)))
    (cut x0 c (2816 + 256 * h.val) 256 (by omega))

/-- Row `k` of a table of the two key heads. -/
abbrev half (k : Fin 2) {a b : ℕ} (x : FVec Ideal ⟨3, ![2, a, b]⟩ .f32) : FVec Ideal ⟨3, ![1, a, b]⟩ .f32 :=
  View.ld (Val := Elt Ideal) (e' := .f32) x (Rect.unit (s := ⟨3, ![2, a, b]⟩) ![k.val, 0, 0] ![1, a, b]
    (fun i => by have := k.isLt; fin_cases i <;> first | (change k.val + 1 ≤ 2; omega) | exact (Nat.zero_add _).le))

/-- The heads of a block's first chunk: its earlier keys come from the row of keys before the block. -/
def chunk0 (f : FVec Ideal S1x256 .f32) : FVec Ideal S128x512 .bf16 :=
  sideBySide
    (attend (hide (scores (queries0 (cut x0 0 0 512 (by omega))) (keys0 (pair x1 (cut x0 0 512 256 (by omega)))) (half 0 x3)) f)
      (values0 (pair x1 (cut x0 0 512 256 (by omega)))) (half 0 x5))
    (attend (hide (scores (queries1 (cut x0 0 0 512 (by omega))) (keys1 (pair x1 (cut x0 0 512 256 (by omega)))) (half 1 x3)) f)
      (values1 (pair x1 (cut x0 0 512 256 (by omega)))) (half 1 x5))

/-- The heads of chunk `c`, whose earlier keys are those of chunk `p` of the block. -/
def chunk (p c : Fin 4) : FVec Ideal S128x512 .bf16 :=
  sideBySide
    (attend (scores (queries0 (cut x0 c 0 512 (by omega))) (keys0 (pair (cut x0 p 512 256 (by omega)) (cut x0 c 512 256 (by omega))))
      (half 0 x3)) (values0 (pair (cut x0 p 512 256 (by omega)) (cut x0 c 512 256 (by omega)))) (half 0 x5))
    (attend (scores (queries1 (cut x0 c 0 512 (by omega))) (keys1 (pair (cut x0 p 512 256 (by omega)) (cut x0 c 512 256 (by omega))))
      (half 1 x3)) (values1 (pair (cut x0 p 512 256 (by omega)) (cut x0 c 512 256 (by omega)))) (half 1 x5))

end block

end Cert.Proof.Mix

end
-- ==== Proof.MixBlock.lean ====
/-
  One block of the mixer: the state it leaves and the tile it stores, written with the operations of its body.
-/
module

public import proofs.«01_k».proof.Proof.MixOps
public import proofs.«01_k».proof.Proof.Gen.KernelIdeal.Value
import Idealize.ShloMosaic.Lib.Pipeline.ValueKit
import Idealize.ShloMosaic.Lib.Pipeline.ReadBack

@[expose] public section

set_option maxRecDepth 16384

noncomputable section

namespace Cert.Proof.Mix

open Idealize.ShloMosaic Idealize.ShloMosaic.TcCoe Idealize.ShloMosaic.Pipeline Cert.KernelIdeal Cert.KernelIdeal.Gen Cert.KernelIdeal.Facts

/-- Four heads stored one by one over anything read back as the four heads. -/
theorem canon_heads (a : Fin 4 → FVec Ideal S1x128x256 .f32) (L : List (View.Piece (Elt Ideal) S4x128x256 .f32)) (i3 i2 i1 i0)
    (y : S4x128x256.Idx) :
    View.canon (Val := Elt Ideal) (s := S4x128x256) (e := .f32) (⟨Rect.unit ![3, 0, 0] ![1, 128, 256] i3, a 3⟩
      :: ⟨Rect.unit ![2, 0, 0] ![1, 128, 256] i2, a 2⟩ :: ⟨Rect.unit ![1, 0, 0] ![1, 128, 256] i1, a 1⟩
      :: ⟨Rect.unit ![0, 0, 0] ![1, 128, 256] i0, a 0⟩ :: L) y = a (y 0) (ix3 0 (y 1) (y 2)) := by
  have piece : ∀ (k : Fin 4) (x : S1x128x256.Idx) (z : S4x128x256.Idx), (z 0).val = k.val + (x 0).val → (z 1).val = (x 1).val →
      (z 2).val = (x 2).val → a k x = a (z 0) (ix3 0 (z 1) (z 2)) := by
    intro k x z h0 h1 h2
    have x0 : (x 0).val < 1 := (x 0).isLt
    have e : z 0 = k := Fin.ext (by omega)
    rw [e]
    refine congrArg (a k) (funext fun i => Fin.ext ?_)
    fin_cases i
    · change (x 0).val = 0; omega
    · exact h1.symm
    · exact h2.symm
  refine View.canon_append_of_piecesOf (fun y => a (y 0) (ix3 0 (y 1) (y 2))) L [_, _, _, _] ⟨?_, ?_, ?_, ?_, trivial⟩ y ?_
  · intro x; refine piece 3 x _ ?_ ?_ ?_ <;> simp [Rect.emb_apply]
  · intro x; refine piece 2 x _ ?_ ?_ ?_ <;> simp [Rect.emb_apply]
  · intro x; refine piece 1 x _ ?_ ?_ ?_ <;> simp [Rect.emb_apply]
  · intro x; refine piece 0 x _ ?_ ?_ ?_ <;> simp [Rect.emb_apply]
  · have mem : ∀ (k : Fin 4) (i), y 0 = k → y ∈ (Rect.unit (s := S4x128x256) ![k.val, 0, 0] ![1, 128, 256] i).set := by
      intro k i e
      refine Rect.mem_set_unit.mpr fun j => ?_
      have := congrArg Fin.val e
      fin_cases j
      · change k.val ≤ (y 0).val ∧ (y 0).val < k.val + 1; omega
      · exact ⟨Nat.zero_le _, (Nat.zero_add _).symm ▸ (y 1).isLt⟩
      · exact ⟨Nat.zero_le _, (Nat.zero_add _).symm ▸ (y 2).isLt⟩
    obtain e | e | e | e : y 0 = (3 : Fin 4) ∨ y 0 = (2 : Fin 4) ∨ y 0 = (1 : Fin 4) ∨ y 0 = (0 : Fin 4) := by
      have : (y 0).val < 4 := (y 0).isLt
      have e : (y 0).val = 3 ∨ (y 0).val = 2 ∨ (y 0).val = 1 ∨ (y 0).val = 0 := by omega
      exact e.imp Fin.ext (Or.imp Fin.ext (Or.imp Fin.ext Fin.ext))
    · exact ⟨_, .head _, mem 3 i3 e⟩
    · exact ⟨_, .tail _ (.head _), mem 2 i2 e⟩
    · exact ⟨_, .tail _ (.tail _ (.head _)), mem 1 i1 e⟩
    · exact ⟨_, .tail _ (.tail _ (.tail _ (.head _))), mem 0 i0 e⟩

/-- Four chunks of rows stored one by one read back as the four chunks. -/
theorem canon_chunks (a : Fin 4 → FVec Ideal S128x512 .bf16) (y : S512x512.Idx) :
    View.canon (Val := Elt Ideal) (s := S512x512) (e := .bf16) [⟨Rect.unit ![384, 0] ![128, 512] inb_S512x512_S128x512_384_0, a 3⟩,
      ⟨Rect.unit ![256, 0] ![128, 512] inb_S512x512_S128x512_256_0, a 2⟩, ⟨Rect.unit ![128, 0] ![128, 512] inb_S512x512_S128x512_128_0, a 1⟩,
      ⟨Rect.unit ![0, 0] ![128, 512] inb_S512x512_S128x512_0_0, a 0⟩] y
      = a ⟨(y 0).val / 128, by have : (y 0).val < 512 := (y 0).isLt; omega⟩ (ix2 ⟨(y 0).val % 128, Nat.mod_lt _ (by decide)⟩ (y 1)) := by
  have piece : ∀ (k : Fin 4) (x : S128x512.Idx), (y 0).val = 128 * k.val + (x 0).val → (y 1).val = (x 1).val →
      a k x = a ⟨(y 0).val / 128, by have : (y 0).val < 512 := (y 0).isLt; omega⟩
        (ix2 ⟨(y 0).val % 128, Nat.mod_lt _ (by decide)⟩ (y 1)) := by
    intro k x h0 h1
    have x0 : (x 0).val < 128 := (x 0).isLt
    have e : (⟨(y 0).val / 128, by have : (y 0).val < 512 := (y 0).isLt; omega⟩ : Fin 4) = k := Fin.ext (by change _ / 128 = _; omega)
    rw [e]
    refine congrArg (a k) (funext fun i => Fin.ext ?_)
    fin_cases i
    · change (x 0).val = _ % 128; omega
    · exact h1.symm
  canon_tiles x h
  · exact piece 3 x (by simpa using h0) h1
  · exact piece 2 x (by simpa using h0) h1
  · exact piece 1 x (by simpa using h0) h1
  · exact piece 0 x (by simpa using h0) h1

set_option maxHeartbeats 1000000 in
/-- Sixteen tiles, a chunk's four heads after another's, read back as the tiles. -/
theorem canon_grid (a : Fin 4 → Fin 4 → FVec Ideal S128x256 .bf16)
    (y : S512x1024.Idx) :
    View.canon (Val := Elt Ideal) (s := S512x1024) (e := .bf16) [
      ⟨Rect.unit ![384, 768] ![128, 256] inb_S512x1024_S128x256_384_768, a 3 3⟩, ⟨Rect.unit ![384, 512] ![128, 256] inb_S512x1024_S128x256_384_512, a 3 2⟩,
      ⟨Rect.unit ![384, 256] ![128, 256] inb_S512x1024_S128x256_384_256, a 3 1⟩, ⟨Rect.unit ![384, 0] ![128, 256] inb_S512x1024_S128x256_384_0, a 3 0⟩,
      ⟨Rect.unit ![256, 768] ![128, 256] inb_S512x1024_S128x256_256_768, a 2 3⟩, ⟨Rect.unit ![256, 512] ![128, 256] inb_S512x1024_S128x256_256_512, a 2 2⟩,
      ⟨Rect.unit ![256, 256] ![128, 256] inb_S512x1024_S128x256_256_256, a 2 1⟩, ⟨Rect.unit ![256, 0] ![128, 256] inb_S512x1024_S128x256_256_0, a 2 0⟩,
      ⟨Rect.unit ![128, 768] ![128, 256] inb_S512x1024_S128x256_128_768, a 1 3⟩, ⟨Rect.unit ![128, 512] ![128, 256] inb_S512x1024_S128x256_128_512, a 1 2⟩,
      ⟨Rect.unit ![128, 256] ![128, 256] inb_S512x1024_S128x256_128_256, a 1 1⟩, ⟨Rect.unit ![128, 0] ![128, 256] inb_S512x1024_S128x256_128_0, a 1 0⟩,
      ⟨Rect.unit ![0, 768] ![128, 256] inb_S512x1024_S128x256_0_768, a 0 3⟩, ⟨Rect.unit ![0, 512] ![128, 256] inb_S512x1024_S128x256_0_512, a 0 2⟩,
      ⟨Rect.unit ![0, 256] ![128, 256] inb_S512x1024_S128x256_0_256, a 0 1⟩, ⟨Rect.unit ![0, 0] ![128, 256] inb_S512x1024_S128x256_0_0, a 0 0⟩] y
      = a ⟨(y 0).val / 128, by have : (y 0).val < 512 := (y 0).isLt; omega⟩
          ⟨(y 1).val / 256, by have : (y 1).val < 1024 := (y 1).isLt; omega⟩
          (ix2 ⟨(y 0).val % 128, Nat.mod_lt _ (by decide)⟩ ⟨(y 1).val % 256, Nat.mod_lt _ (by decide)⟩) := by
  have piece : ∀ (k l : Fin 4) (x : S128x256.Idx), (y 0).val = 128 * k.val + (x 0).val → (y 1).val = 256 * l.val + (x 1).val →
      a k l x = a ⟨(y 0).val / 128, by have : (y 0).val < 512 := (y 0).isLt; omega⟩
          ⟨(y 1).val / 256, by have : (y 1).val < 1024 := (y 1).isLt; omega⟩
          (ix2 ⟨(y 0).val % 128, Nat.mod_lt _ (by decide)⟩ ⟨(y 1).val % 256, Nat.mod_lt _ (by decide)⟩) := by
    intro k l x h0 h1
    have x0 : (x 0).val < 128 := (x 0).isLt
    have x1 : (x 1).val < 256 := (x 1).isLt
    have e : (⟨(y 0).val / 128, by have : (y 0).val < 512 := (y 0).isLt; omega⟩ : Fin 4) = k := Fin.ext (by change _ / 128 = _; omega)
    have e' : (⟨(y 1).val / 256, by have : (y 1).val < 1024 := (y 1).isLt; omega⟩ : Fin 4) = l := Fin.ext (by change _ / 256 = _; omega)
    rw [e, e']
    refine congrArg (a k l) (funext fun i => Fin.ext ?_)
    fin_cases i
    · change (x 0).val = _ % 128; omega
    · change (x 1).val = _ % 256; omega
  canon_tiles x h
  · exact piece 3 3 x (by simpa using h0) (by simpa using h1)
  · exact piece 3 2 x (by simpa using h0) (by simpa using h1)
  · exact piece 3 1 x (by simpa using h0) (by simpa using h1)
  · exact piece 3 0 x (by simpa using h0) (by simpa using h1)
  · exact piece 2 3 x (by simpa using h0) (by simpa using h1)
  · exact piece 2 2 x (by simpa using h0) (by simpa using h1)
  · exact piece 2 1 x (by simpa using h0) (by simpa using h1)
  · exact piece 2 0 x (by simpa using h0) (by simpa using h1)
  · exact piece 1 3 x (by simpa using h0) (by simpa using h1)
  · exact piece 1 2 x (by simpa using h0) (by simpa using h1)
  · exact piece 1 1 x (by simpa using h0) (by simpa using h1)
  · exact piece 1 0 x (by simpa using h0) (by simpa using h1)
  · exact piece 0 3 x (by simpa using h0) (by simpa using h1)
  · exact piece 0 2 x (by simpa using h0) (by simpa using h1)
  · exact piece 0 1 x (by simpa using h0) (by simpa using h1)
  · exact piece 0 0 x (by simpa using h0) (by simpa using h1)

/-- The attention's scratch read whole is what its stores left. -/
theorem whole_att (L : List (View.Piece (Elt Ideal) S512x512 .bf16)) :
    (View.whole cc0_scratch1).readCov L (Rect.unit ![0, 0] ![512, 512] inb_S512x512_S512x512_0_0).toLoadRect = View.canon L := by
  rw [View.readCov_eq_canon']
  refine funext fun j => congrArg (View.canon L) (funext fun i => Fin.ext ?_)
  fin_cases i <;> exact (Nat.zero_add _).trans (Nat.one_mul _)

/-- The retention's scratch read whole is what its stores left. -/
theorem whole_ret (L : List (View.Piece (Elt Ideal) S512x1024 .bf16)) :
    (View.whole cc0_scratch2).readCov L (Rect.unit ![0, 0] ![512, 1024] inb_S512x1024_S512x1024_0_0).toLoadRect = View.canon L := by
  rw [View.readCov_eq_canon']
  refine funext fun j => congrArg (View.canon L) (funext fun i => Fin.ext ?_)
  fin_cases i <;> exact (Nat.zero_add _).trans (Nat.one_mul _)

/-- Four chunks of rows, one under the other. -/
def rowsOf (a : Fin 4 → FVec Ideal S128x512 .bf16) : FVec Ideal S512x512 .bf16 := fun y =>
  a ⟨(y 0).val / 128, by have : (y 0).val < 512 := (y 0).isLt; omega⟩ (ix2 ⟨(y 0).val % 128, Nat.mod_lt _ (by decide)⟩ (y 1))

/-- Four chunks of four heads, the chunks one under the other and the heads side by side. -/
def tilesOf (a : Fin 4 → Fin 4 → FVec Ideal S128x256 .bf16) : FVec Ideal S512x1024 .bf16 := fun y =>
  a ⟨(y 0).val / 128, by have : (y 0).val < 512 := (y 0).isLt; omega⟩
    ⟨(y 1).val / 256, by have : (y 1).val < 1024 := (y 1).isLt; omega⟩
    (ix2 ⟨(y 0).val % 128, Nat.mod_lt _ (by decide)⟩ ⟨(y 1).val % 256, Nat.mod_lt _ (by decide)⟩)

/-- The attention of chunk `k` of a block. -/
def attention (x0 : FVec Ideal S512x5888 .bf16) (x1 : FVec Ideal S128x256 .bf16) (x3 : FVec Ideal S2x512x256 .f32)
    (x5 : FVec Ideal S2x512x1 .f32) (f : FVec Ideal S1x256 .f32) : Fin 4 → FVec Ideal S128x512 .bf16 :=
  ![chunk0 x0 x1 x3 x5 f, chunk x0 x3 x5 0 1, chunk x0 x3 x5 1 2, chunk x0 x3 x5 2 3]

/-- Four stores of rows, known one by one. -/
theorem canon_rows (a : Fin 4 → FVec Ideal S128x512 .bf16) (p3 p2 p1 p0 : FVec Ideal S128x512 .bf16) (h3 : p3 = a 3) (h2 : p2 = a 2)
    (h1 : p1 = a 1) (h0 : p0 = a 0) :
    View.canon (Val := Elt Ideal) (s := S512x512) (e := .bf16) [⟨Rect.unit ![384, 0] ![128, 512] inb_S512x512_S128x512_384_0, p3⟩,
      ⟨Rect.unit ![256, 0] ![128, 512] inb_S512x512_S128x512_256_0, p2⟩, ⟨Rect.unit ![128, 0] ![128, 512] inb_S512x512_S128x512_128_0, p1⟩,
      ⟨Rect.unit ![0, 0] ![128, 512] inb_S512x512_S128x512_0_0, p0⟩] = rowsOf a := by
  subst h3 h2 h1 h0
  exact funext (canon_chunks a)

/-- Sixteen stores of tiles, known one by one. -/
theorem canon_tileset (a : Fin 4 → Fin 4 → FVec Ideal S128x256 .bf16)
    (p33 p32 p31 p30 p23 p22 p21 p20 p13 p12 p11 p10 p03 p02 p01 p00 : FVec Ideal S128x256 .bf16)
    (h33 : p33 = a 3 3) (h32 : p32 = a 3 2) (h31 : p31 = a 3 1) (h30 : p30 = a 3 0)
    (h23 : p23 = a 2 3) (h22 : p22 = a 2 2) (h21 : p21 = a 2 1) (h20 : p20 = a 2 0)
    (h13 : p13 = a 1 3) (h12 : p12 = a 1 2) (h11 : p11 = a 1 1) (h10 : p10 = a 1 0)
    (h03 : p03 = a 0 3) (h02 : p02 = a 0 2) (h01 : p01 = a 0 1) (h00 : p00 = a 0 0) :
    View.canon (Val := Elt Ideal) (s := S512x1024) (e := .bf16) [
      ⟨Rect.unit ![384, 768] ![128, 256] inb_S512x1024_S128x256_384_768, p33⟩, ⟨Rect.unit ![384, 512] ![128, 256] inb_S512x1024_S128x256_384_512, p32⟩, ⟨Rect.unit ![384, 256] ![128, 256] inb_S512x1024_S128x256_384_256, p31⟩, ⟨Rect.unit ![384, 0] ![128, 256] inb_S512x1024_S128x256_384_0, p30⟩,
      ⟨Rect.unit ![256, 768] ![128, 256] inb_S512x1024_S128x256_256_768, p23⟩, ⟨Rect.unit ![256, 512] ![128, 256] inb_S512x1024_S128x256_256_512, p22⟩, ⟨Rect.unit ![256, 256] ![128, 256] inb_S512x1024_S128x256_256_256, p21⟩, ⟨Rect.unit ![256, 0] ![128, 256] inb_S512x1024_S128x256_256_0, p20⟩,
      ⟨Rect.unit ![128, 768] ![128, 256] inb_S512x1024_S128x256_128_768, p13⟩, ⟨Rect.unit ![128, 512] ![128, 256] inb_S512x1024_S128x256_128_512, p12⟩, ⟨Rect.unit ![128, 256] ![128, 256] inb_S512x1024_S128x256_128_256, p11⟩, ⟨Rect.unit ![128, 0] ![128, 256] inb_S512x1024_S128x256_128_0, p10⟩,
      ⟨Rect.unit ![0, 768] ![128, 256] inb_S512x1024_S128x256_0_768, p03⟩, ⟨Rect.unit ![0, 512] ![128, 256] inb_S512x1024_S128x256_0_512, p02⟩, ⟨Rect.unit ![0, 256] ![128, 256] inb_S512x1024_S128x256_0_256, p01⟩, ⟨Rect.unit ![0, 0] ![128, 256] inb_S512x1024_S128x256_0_0, p00⟩] = tilesOf a := by
  subst h33 h32 h31 h30 h23 h22 h21 h20 h13 h12 h11 h10 h03 h02 h01 h00
  exact funext (canon_grid a)

variable (m : (ℓ : Loc nD τ sig) → Buf (Elt Ideal) ℓ)

set_option maxHeartbeats 8000000 in
/-- The state a later block of a batch leaves. -/
theorem state_B (c : Dev nD) (t : Fin cfg0.N) (h : ¬ t.val % 4 = 0) (y : S4x128x256.Idx) :
    (outsAt0 m c t.val t.isLt).2 y = states (iblk m c 0 t) (iblk m c 8 t) (iblk m c 9 t)
      (outsAt0 m c (t.val - 1) (Nat.lt_of_le_of_lt (Nat.sub_le _ _) t.isLt)).2 (y 0) 4 (ix3 0 (y 1) (y 2)) := by
  rw [outsAt0_B m c t h]
  frame_out
  simp (disch := first | rfl | decide) only [View.readCov_skip, View.readCov_cons_toLoadRect, read_unread_whole]
  exact canon_heads (fun k => states (iblk m c 0 t) (iblk m c 8 t) (iblk m c 9 t)
      (outsAt0 m c (t.val - 1) (Nat.lt_of_le_of_lt (Nat.sub_le _ _) t.isLt)).2 k 4) _ _ _ _ _ y

set_option maxHeartbeats 8000000 in
/-- The state a batch's first block leaves: it starts from nothing. -/
theorem state_A (c : Dev nD) (t : Fin cfg0.N) (h : t.val % 4 = 0) (y : S4x128x256.Idx) :
    (outsAt0 m c t.val t.isLt).2 y = states (iblk m c 0 t) (iblk m c 8 t) (iblk m c 9 t)
      (k0_pay1 (F := Ideal)) (y 0) 4 (ix3 0 (y 1) (y 2)) := by
  rw [outsAt0_A m c t h]
  frame_out
  simp (disch := first | rfl | decide) only [View.readCov_skip, View.readCov_cons_toLoadRect, read_unread_whole, View.readCov_fill]
  exact canon_heads (fun k => states (iblk m c 0 t) (iblk m c 8 t) (iblk m c 9 t)
      (k0_pay1 (F := Ideal)) k 4) _ _ _ _ _ y

set_option maxHeartbeats 1600000 in
/-- The tile a later block of a batch stores. -/
theorem tile_B (c : Dev nD) (t : Fin cfg0.N) (h : ¬ t.val % 4 = 0) :
    (outsAt0 m c t.val t.isLt).1 = k0_pay141 (F := Ideal) (rowsOf (attention (iblk m c 0 t) (shapeCast S128x256 (iblk m c 1 t) shapeCasts_S128x256_S128x256) (iblk m c 3 t) (iblk m c 5 t)
        (k0_pay2 (F := Ideal) (grid0.coords t) (iblk m c 4 t))))
      (iblk m c 11 t)
      (tilesOf (head (iblk m c 0 t) (iblk m c 6 t) (iblk m c 7 t) (iblk m c 8 t) (iblk m c 9 t) (iblk m c 10 t) (outsAt0 m c (t.val - 1) (Nat.lt_of_le_of_lt (Nat.sub_le _ _) t.isLt)).2))
      (iblk m c 12 t)
      (View.ld (Val := Elt Ideal) (e' := .bf16) (iblk m c 0 t) (Rect.unit ![0, 3840] ![512, 1024] inb_S512x5888_S512x1024_0_3840))
      (View.ld (Val := Elt Ideal) (e' := .bf16) (iblk m c 0 t) (Rect.unit ![0, 4864] ![512, 1024] inb_S512x5888_S512x1024_0_4864))
      (iblk m c 2 t)
      (iblk m c 13 t) := by
  rw [outsAt0_B m c t h]
  frame_out
  simp (disch := first | rfl | decide) only [View.readCov_skip, View.readCov_cons_toLoadRect, read_unread_whole]
  rw [whole_att, whole_ret]
  rw [canon_rows (attention (iblk m c 0 t) (shapeCast S128x256 (iblk m c 1 t) shapeCasts_S128x256_S128x256) (iblk m c 3 t) (iblk m c 5 t)
        (k0_pay2 (F := Ideal) (grid0.coords t) (iblk m c 4 t))),
    canon_tileset (head (iblk m c 0 t) (iblk m c 6 t) (iblk m c 7 t) (iblk m c 8 t) (iblk m c 9 t) (iblk m c 10 t)
      (outsAt0 m c (t.val - 1) (Nat.lt_of_le_of_lt (Nat.sub_le _ _) t.isLt)).2)]
  all_goals rfl

set_option maxHeartbeats 1600000 in
/-- The tile a batch's first block stores. -/
theorem tile_A (c : Dev nD) (t : Fin cfg0.N) (h : t.val % 4 = 0) :
    (outsAt0 m c t.val t.isLt).1 = k0_pay141 (F := Ideal) (rowsOf (attention (iblk m c 0 t) (shapeCast S128x256 (iblk m c 1 t) shapeCasts_S128x256_S128x256) (iblk m c 3 t) (iblk m c 5 t)
        (k0_pay2 (F := Ideal) (grid0.coords t) (iblk m c 4 t))))
      (iblk m c 11 t)
      (tilesOf (head (iblk m c 0 t) (iblk m c 6 t) (iblk m c 7 t) (iblk m c 8 t) (iblk m c 9 t) (iblk m c 10 t) (k0_pay1 (F := Ideal))))
      (iblk m c 12 t)
      (View.ld (Val := Elt Ideal) (e' := .bf16) (iblk m c 0 t) (Rect.unit ![0, 3840] ![512, 1024] inb_S512x5888_S512x1024_0_3840))
      (View.ld (Val := Elt Ideal) (e' := .bf16) (iblk m c 0 t) (Rect.unit ![0, 4864] ![512, 1024] inb_S512x5888_S512x1024_0_4864))
      (iblk m c 2 t)
      (iblk m c 13 t) := by
  rw [outsAt0_A m c t h]
  frame_out
  simp (disch := first | rfl | decide) only [View.readCov_skip, View.readCov_cons_toLoadRect, read_unread_whole, View.readCov_fill]
  rw [whole_att, whole_ret]
  rw [canon_rows (attention (iblk m c 0 t) (shapeCast S128x256 (iblk m c 1 t) shapeCasts_S128x256_S128x256) (iblk m c 3 t) (iblk m c 5 t)
        (k0_pay2 (F := Ideal) (grid0.coords t) (iblk m c 4 t))),
    canon_tileset (head (iblk m c 0 t) (iblk m c 6 t) (iblk m c 7 t) (iblk m c 8 t) (iblk m c 9 t) (iblk m c 10 t)
      (k0_pay1 (F := Ideal)))]
  all_goals rfl

end Cert.Proof.Mix

end
-- ==== Proof.MixKernelOps.lean ====
/-
  The mixer's operations, read at an index.
-/
module

public import proofs.«01_k».proof.Proof.MixFns
public import proofs.«01_k».proof.Proof.MixBlock

@[expose] public section

set_option maxRecDepth 16384

noncomputable section

namespace Cert.Proof.Mix

open Idealize.ShloMosaic Idealize.ShloMosaic.TcCoe Idealize.ShloMosaic.Pipeline Cert.KernelIdeal Cert.KernelIdeal.Gen Cert.KernelIdeal.Facts

/-- Four heads stacked, at an index. -/
theorem stack_at (a b c d : FVec Ideal S128x64 .bf16) (g : Fin 4) (i : Fin 128) (x : Fin 64) :
    stack a b c d (ix2 ⟨g.val * 128 + i.val, by omega⟩ x) = (![a, b, c, d] g) (ix2 i x) := by
  fin_cases g <;> pointwise [stack]
  all_goals (split_ifs <;> first | omega | (congr 2 <;> exact Fin.ext (by dsimp only; omega)))

/-- The first key head's queries, at an index. -/
theorem queries0_at (q : FVec Ideal S128x512 .bf16) (g : Fin 4) (i : Fin 128) (x : Fin 64) :
    queries0 q (ix2 ⟨g.val * 128 + i.val, by omega⟩ x) = q (ix2 i ⟨g.val * 64 + x.val, by omega⟩) := by
  rw [queries0, stack_at]
  fin_cases g <;> pointwise

/-- The second key head's queries, at an index. -/
theorem queries1_at (q : FVec Ideal S128x512 .bf16) (g : Fin 4) (i : Fin 128) (x : Fin 64) :
    queries1 q (ix2 ⟨g.val * 128 + i.val, by omega⟩ x) = q (ix2 i ⟨256 + (g.val * 64 + x.val), by omega⟩) := by
  rw [queries1, stack_at]
  fin_cases g <;> pointwise
  all_goals (congr 2 <;> exact Fin.ext (by dsimp only; omega))

/-- Two chunks one below the other, at an index. -/
theorem pair_at (p q : FVec Ideal S128x256 .bf16) (j : Fin 256) (x : Fin 256) :
    pair p q (ix2 j x) = if h : j.val < 128 then p (ix2 ⟨j.val, h⟩ x) else q (ix2 ⟨j.val - 128, by omega⟩ x) := by
  pointwise [pair]

/-- The products over eight plus the table, at an index. -/
theorem scores_at (q : FVec Ideal S512x64 .bf16) (k : FVec Ideal S256x64 .bf16) (b : FVec Ideal S1x512x256 .f32) (r : Fin 512) (j : Fin 256) :
    scores q k b (ix2 r j) = (∑ d : Fin 64, q (ix2 r d) * k (ix2 j d)) * eighth + b (ix3 0 r j) := by
  pointwise [scores]
  try rfl

/-- The mask added to the scores, at an index. -/
theorem hide_at (s : FVec Ideal S512x256 .f32) (f : FVec Ideal S1x256 .f32) (r : Fin 512) (j : Fin 256) :
    hide s f (ix2 r j) = s (ix2 r j) + f (ix2 0 j) := by
  pointwise [hide]

/-- The first four heads side by side, at an index. -/
theorem sideBySide_at0 (a b : FVec Ideal S512x64 .f32) (g : Fin 4) (i : Fin 128) (x : Fin 64) :
    sideBySide a b (ix2 i ⟨g.val * 64 + x.val, by omega⟩) = a (ix2 ⟨g.val * 128 + i.val, by omega⟩ x) := by
  fin_cases g <;> pointwise [sideBySide]
  all_goals (split_ifs <;> first | omega | (congr 2 <;> exact Fin.ext (by dsimp only; omega)))

/-- The last four heads side by side, at an index. -/
theorem sideBySide_at1 (a b : FVec Ideal S512x64 .f32) (g : Fin 4) (i : Fin 128) (x : Fin 64) :
    sideBySide a b (ix2 i ⟨256 + (g.val * 64 + x.val), by omega⟩) = b (ix2 ⟨g.val * 128 + i.val, by omega⟩ x) := by
  fin_cases g <;> pointwise [sideBySide]
  all_goals (split_ifs <;> first | omega | (congr 2 <;> exact Fin.ext (by dsimp only; omega)))

/-- A row's greatest with its sink. -/
theorem top_at (s : FVec Ideal S512x256 .f32) (n : FVec Ideal S1x512x1 .f32) (r : Fin 512) :
    top s n (ix2 r 0) = rowTop (fun j => s (ix2 r j)) (n (ix3 0 r 0)) := by
  pointwise [top]
  rw [show Ideal.ofBits .f32 4286578688#32 = ⊥ from by simp [Ideal.ofBits, Ideal.ieee], rowTop]

/-- A row's weights. -/
theorem weights_at (s : FVec Ideal S512x256 .f32) (n : FVec Ideal S1x512x1 .f32) (r : Fin 512) (j : Fin 256) :
    weights s n (ix2 r j) = Ideal.exp (s (ix2 r j) - top s n (ix2 r 0)) := by
  pointwise [weights]

/-- A row's attention. -/
theorem attend_at (s : FVec Ideal S512x256 .f32) (v : FVec Ideal S256x64 .bf16) (n : FVec Ideal S1x512x1 .f32) (r : Fin 512) (d : Fin 64) :
    attend s v n (ix2 r d) = rowAtt (fun j => s (ix2 r j)) (n (ix3 0 r 0)) (fun j => v (ix2 j d)) := by
  have e : attend s v n (ix2 r d) = Ideal.div (∑ j : Fin 256, weights s n (ix2 r j) * v (ix2 j d))
     ((∑ j : Fin 256, weights s n (ix2 r j)) + Ideal.exp (n (ix3 0 r 0) - top s n (ix2 r 0))) := by
    pointwise [attend]
  rw [e]
  simp only [weights_at, top_at]
  rfl

/-- A head's mean. -/
theorem mean_at (o : FVec Ideal S128x256 .f32) (i : Fin 128) : mean o (ix2 i 0) = headMean fun k => o (ix2 i k) := by
  pointwise [mean, headMean]
  try rfl

/-- A head's row centred. -/
theorem centre_at (o : FVec Ideal S128x256 .f32) (i : Fin 128) (v : Fin 256) : centre o (ix2 i v) = o (ix2 i v) - headMean fun k => o (ix2 i k) := by
  rw [← mean_at]
  pointwise [centre]

/-- A head's row after norm and gate. -/
theorem gate_at (o : FVec Ideal S128x256 .f32) (g : FVec Ideal S1x256 .f32) (r : FVec Ideal S128x256 .bf16) (i : Fin 128) (v : Fin 256) :
    gate o g r (ix2 i v) = headGate (fun k => o (ix2 i k)) (fun k => g (ix2 0 k)) (fun k => r (ix2 i k)) v := by
  have e : gate o g r (ix2 i v) = centre o (ix2 i v) * Ideal.rsqrt (mean (mulf (centre o) (centre o)) (ix2 i 0) + headEps) * g (ix2 0 v)
      * (r (ix2 i v) * Ideal.logistic (r (ix2 i v))) := by
    pointwise [gate]
    try rfl
  rw [e, mean_at, centre_at, headGate]
  have f : (fun k => mulf (centre o) (centre o) (ix2 i k)) = fun k => (o (ix2 i k) - headMean fun k => o (ix2 i k)) * (o (ix2 i k) - headMean fun k => o (ix2 i k)) :=
    funext fun k => by rw [← centre_at]; rfl
  rw [f]

/-- A head's retention in a chunk. -/
theorem retain_at (q k : FVec Ideal S128x128 .bf16) (v : FVec Ideal S128x256 .bf16) (st : FVec Ideal S1x128x256 .f32)
    (di : FVec Ideal S1x128x128 .f32) (dq : FVec Ideal S1x128x1 .f32) (i : Fin 128) (x : Fin 256) :
    retain q k v st di dq (ix2 i x) = (∑ j : Fin 128, (∑ d : Fin 128, q (ix2 i d) * k (ix2 j d)) * di (ix3 0 i j) * v (ix2 j x))
      + (∑ d : Fin 128, q (ix2 i d) * st (ix3 0 d x)) * dq (ix3 0 i 0) := by
  pointwise [retain]
  try rfl

/-- The state a chunk leaves. -/
theorem carry_at (k : FVec Ideal S128x128 .bf16) (v : FVec Ideal S128x256 .bf16) (st : FVec Ideal S1x128x256 .f32)
    (dk : FVec Ideal S1x128x1 .f32) (dc : Elt Ideal .f32) (d : Fin 128) (x : Fin 256) :
    carry k v st dk dc (ix3 0 d x) = dc * st (ix3 0 d x) + ∑ i : Fin 128, k (ix2 i d) * dk (ix3 0 i 0) * v (ix2 i x) := by
  pointwise [carry]
  try rfl

end Cert.Proof.Mix

end
-- ==== Proof.MixKernelTables.lean ====
/-
  The blocks a step reads: where they lie in the arrays, and the entries of the tables.
-/
module

public import proofs.«01_k».proof.Proof.MixKernelOps
public import proofs.«01_k».proof.Proof.MixBlock
import Idealize.ShloMosaic.Lib.Claim

@[expose] public section

set_option maxRecDepth 16384

noncomputable section

namespace Cert.Proof.Mix

open Idealize.ShloMosaic Idealize.ShloMosaic.TcCoe Idealize.ShloMosaic.Pipeline Cert.KernelIdeal Cert.KernelIdeal.Gen Cert.KernelIdeal.Facts

variable (m : (ℓ : Loc nD τ sig) → Buf (Elt Ideal) ℓ)

/-- Where the windows of a step lie, in blocks. -/
theorem idx : ∀ t : Fin cfg0.N, win0_0.index t = ![t.val, 0] ∧ win0_1.index t = ![4 * t.val - 1, 0] ∧ win0_2.index t = ![t.val, 0]
      ∧ win0_3.index t = ![0, 0, 0] ∧ win0_4.index t = ![0, 0] ∧ win0_5.index t = ![0, 0, 0] ∧ win0_6.index t = ![0, 0, 0]
      ∧ win0_7.index t = ![0, 0, 0] ∧ win0_8.index t = ![0, 0, 0] ∧ win0_9.index t = ![0] ∧ win0_10.index t = ![0, 0]
      ∧ win0_11.index t = ![0, 0] ∧ win0_12.index t = ![0, 0] ∧ win0_13.index t = ![0, 0] ∧ win0_14.index t = ![t.val, 0] :=
  (by decide +kernel : ∀ t : Fin grid0.N, _)

/-- A step's place in its batch. -/
theorem coord1 : ∀ t : Fin cfg0.N, ((grid0.coords t) 1).val = t.val % 4 := (by decide +kernel : ∀ t : Fin grid0.N, _)

variable (c : Dev nD) (t : Fin cfg0.N)

/-- The window on the chunk before a block. -/
theorem emb1 (r : Fin 128) (k : Fin 256) : (iblk m c 1 t : Vec Ideal S128x256 .bf16) (ix2 r k) = V m c main_v89 (ix2 ⟨(4 * t.val - 1) * 128 + r.val, by have h : t.val < 64 := t.isLt; omega⟩ k) := by
  blk_ext [iblk, idx t]

/-- The bias table is read whole. -/
theorem emb3 (a : Fin 2) (r : Fin 512) (k : Fin 256) : (iblk m c 3 t : Vec Ideal S2x512x256 .f32) (ix3 a r k) = V m c main_v33 (ix3 a r k) := by
  blk_ext [iblk, idx t]

/-- The mask table is read whole. -/
theorem emb4 (k : Fin 256) : (iblk m c 4 t : Vec Ideal S1x256 .f32) (ix2 0 k) = V m c main_v37 (ix2 0 k) := by
  blk_ext [iblk, idx t]

/-- The sinks are read whole. -/
theorem emb5 (a : Fin 2) (r : Fin 512) : (iblk m c 5 t : Vec Ideal S2x512x1 .f32) (ix3 a r 0) = V m c main_v93 (ix3 a r 0) := by
  blk_ext [iblk, idx t]

/-- The decays inside a chunk are read whole. -/
theorem emb6 (a : Fin 4) (r k : Fin 128) : (iblk m c 6 t : Vec Ideal S4x128x128 .f32) (ix3 a r k) = V m c main_v65 (ix3 a r k) := by
  blk_ext [iblk, idx t]

/-- The decays of the entering state are read whole. -/
theorem emb7 (a : Fin 4) (r : Fin 128) : (iblk m c 7 t : Vec Ideal S4x128x1 .f32) (ix3 a r 0) = V m c main_v74 (ix3 a r 0) := by
  blk_ext [iblk, idx t]

/-- The decays into the leaving state are read whole. -/
theorem emb8 (a : Fin 4) (r : Fin 128) : (iblk m c 8 t : Vec Ideal S4x128x1 .f32) (ix3 a r 0) = V m c main_v85 (ix3 a r 0) := by
  blk_ext [iblk, idx t]

/-- The decays over a chunk are read whole. -/
theorem emb9 (a : Fin 4) : (iblk m c 9 t : Vec Ideal S4 .f32) (ix1 a) = V m c main_v88 (ix1 a) := by
  blk_ext [iblk, idx t]

/-- The head norm's gain is read whole. -/
theorem emb10 (k : Fin 1024) : (iblk m c 10 t : Vec Ideal S1x1024 .f32) (ix2 0 k) = V m c main_v94 (ix2 0 k) := by
  blk_ext [iblk, idx t]

/-- A step reads its 512 rows of the projection. -/
theorem blk0 (r : Fin 512) (k : Fin 5888) :
    (iblk m c 0 t : Vec Ideal S512x5888 .bf16) (ix2 r k) = m ((c : Thread nD τ).loc main_arg0) (ix2 ⟨t.val * 512 + r.val, by have h : t.val < 64 := t.isLt; omega⟩ k) := by
  blk_ext [iblk, V, idx t]

/-- A step reads its 512 rows of the residual. -/
theorem blk2 (r : Fin 512) (k : Fin 1024) :
    (iblk m c 2 t : Vec Ideal S512x1024 .f32) (ix2 r k) = m ((c : Thread nD τ).loc main_arg1) (ix2 ⟨t.val * 512 + r.val, by have h : t.val < 64 := t.isLt; omega⟩ k) := by
  blk_ext [iblk, V, idx t]

/-- The attention's output weights are read whole. -/
theorem blk11 (i : Fin 512) (j : Fin 1024) :
    (iblk m c 11 t : Vec Ideal S512x1024 .bf16) (ix2 i j) = m ((c : Thread nD τ).loc main_arg4) (ix2 i j) := by
  blk_point [iblk, V, idx t]

/-- The retention's output weights are read whole. -/
theorem blk12 (i j : Fin 1024) :
    (iblk m c 12 t : Vec Ideal S1024x1024 .bf16) (ix2 i j) = m ((c : Thread nD τ).loc main_arg5) (ix2 i j) := by
  blk_point [iblk, V, idx t]

/-- The output projection is read whole. -/
theorem blk13 (i j : Fin 1024) :
    (iblk m c 13 t : Vec Ideal S1024x1024 .bf16) (ix2 i j) = m ((c : Thread nD τ).loc main_arg6) (ix2 i j) := by
  blk_point [iblk, V, idx t]

/-- A step writes its 512 rows of the result. -/
theorem out_emb (r : Fin 512) (k : Fin 1024) : (win0_14.blk t).view.emb (ix2 r k) = ix2 ⟨t.val * 512 + r.val, by have h : t.val < 64 := t.isLt; omega⟩ k := by
  blk_ext [idx t]

set_option maxHeartbeats 1000000 in
/-- The keys and values by themselves are columns of the projection. -/
theorem kv_at (r : Fin 32768) (k : Fin 256) :
    V m c main_v89 (ix2 r k) = m ((c : Thread nD τ).loc main_arg0) (ix2 r ⟨512 + k.val, by omega⟩) := by
  unfold V
  simp only [hostOps0, hostOps0_1, hostOps0_2, hostOps0_3, hostOps0_4, hostOps0_5, hostOps0_6, List.flatten_cons, List.flatten_nil, List.append_nil, List.cons_append, List.nil_append]
  entry_read
  pointwise

set_option maxHeartbeats 1000000 in
/-- The bias table: minus slope times distance in the window, minus infinity outside. -/
theorem bias_at (k : Fin 2) (g : Fin 4) (i : Fin 128) (j : Fin 256) :
    V m c main_v33 (ix3 k ⟨g.val * 128 + i.val, by omega⟩ j) = Scalar.select (near i j)
      (-slope ⟨k.val * 4 + g.val, by omega⟩ * FloatOps.sitofp (F := Ideal) .f32 (distWord i j)) (Ideal.ofBits .f32 0xFF800000#32) := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf]
  repeat erw [cast_eq]
  pointwise [near, slope]
  rw [show k.val * 4 + (g.val * 128 + i.val) / 128 = k.val * 4 + g.val from by omega]

set_option maxHeartbeats 1000000 in
/-- The mask table: one for the chunk before, zero for the chunk itself. -/
theorem fmask_at (j : Fin 256) : V m c main_v37 (ix2 0 j) = Scalar.select (IntOp.cmpi .slt (BitVec.ofNat 32 j.val) 128#32) (1 : EReal) 0 := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf]
  repeat erw [cast_eq]
  pointwise

set_option maxHeartbeats 1000000 in
/-- The sinks spread over the rows of their groups. -/
theorem sink_at (k : Fin 2) (g : Fin 4) (i : Fin 128) :
    V m c main_v93 (ix3 k ⟨g.val * 128 + i.val, by omega⟩ 0) = m ((c : Thread nD τ).loc main_arg2) (ix1 ⟨k.val * 4 + g.val, by omega⟩) := by
  unfold V
  simp only [hostOps0, hostOps0_1, hostOps0_2, hostOps0_3, hostOps0_4, hostOps0_5, hostOps0_6, List.flatten_cons, List.flatten_nil, List.append_nil, List.cons_append, List.nil_append]
  entry_read
  pointwise
  exact congrArg (fun z => m (c.tc.loc main_arg2) (ix1 z)) (Fin.ext (by dsimp only; omega))

set_option maxHeartbeats 1000000 in
/-- The decays inside a chunk, with the keys' scale. -/
theorem din_at (h : Fin 4) (i j : Fin 128) : V m c main_v65 (ix3 h i j) = decayIn h i j * keyScale := by
  unfold V
  simp only [hostOps0, hostOps0_1, hostOps0_2, hostOps0_3, hostOps0_4, hostOps0_5, hostOps0_6, List.flatten_cons, List.flatten_nil, List.append_nil, List.cons_append, List.nil_append]
  entry_read
  simp only [StableHlo.TRef.toBuf, StableHlo.TRef.ofBuf]
  repeat erw [cast_eq]
  pointwise [decayIn, logDecay]

set_option maxHeartbeats 1000000 in
/-- The decays of the entering state. -/
theorem dq_at (h : Fin 4) (i : Fin 128) : V m c main_v74 (ix3 h i 0) = decayQ h i := by
  unfold V
  simp only [hostOps0, hostOps0_1, hostOps0_2, hostOps0_3, hostOps0_4, hostOps0_5, hostOps0_6, List.flatten_cons, List.flatten_nil, List.append_nil, List.cons_append, List.nil_append]
  entry_read
  pointwise [decayQ, logDecay]

set_option maxHeartbeats 1000000 in
/-- The decays into the leaving state, with the keys' scale. -/
theorem dk_at (h : Fin 4) (i : Fin 128) : V m c main_v85 (ix3 h i 0) = decayK h i * keyScale := by
  unfold V
  simp only [hostOps0, hostOps0_1, hostOps0_2, hostOps0_3, hostOps0_4, hostOps0_5, hostOps0_6, List.flatten_cons, List.flatten_nil, List.append_nil, List.cons_append, List.nil_append]
  entry_read
  pointwise [decayK, logDecay]

set_option maxHeartbeats 1000000 in
/-- The decays over a chunk. -/
theorem dc_at (h : Fin 4) : V m c main_v88 (ix1 h) = decayC h := by
  unfold V
  simp only [hostOps0, hostOps0_1, hostOps0_2, hostOps0_3, hostOps0_4, hostOps0_5, hostOps0_6, List.flatten_cons, List.flatten_nil, List.append_nil, List.cons_append, List.nil_append]
  entry_read
  pointwise [decayC, logDecay]

set_option maxHeartbeats 1000000 in
/-- The head norm's gain. -/
theorem gain_at (k : Fin 1024) : V m c main_v94 (ix2 0 k) = m ((c : Thread nD τ).loc main_arg3) (ix1 k) := by
  unfold V
  simp only [hostOps0, hostOps0_1, hostOps0_2, hostOps0_3, hostOps0_4, hostOps0_5, hostOps0_6, List.flatten_cons, List.flatten_nil, List.append_nil, List.cons_append, List.nil_append]
  entry_read
  pointwise

end Cert.Proof.Mix

end
-- ==== Proof.MixKernelBlock.lean ====
/-
  One block of the mixer, from what its inputs hold: the chunks of attention and the heads of retention.
-/
module

public import proofs.«01_k».proof.Proof.MixKernelOps
public import proofs.«01_k».proof.Proof.MixBlock
import Idealize.ShloMosaic.Lib.Pipeline.ValueKit

@[expose] public section

set_option maxRecDepth 16384

noncomputable section

namespace Cert.Proof.Mix

open Idealize.ShloMosaic Idealize.ShloMosaic.TcCoe Idealize.ShloMosaic.Pipeline Cert.KernelIdeal Cert.KernelIdeal.Gen Cert.KernelIdeal.Facts

/-- A row of a block, by its chunk and its place in the chunk. -/
theorem lt_row (c : Fin 4) (i : Fin 128) : 128 * c.val + i.val < 512 := by omega

/-- A row of one head's group of scores. -/
theorem lt_group (g : Fin 4) (i : Fin 128) : g.val * 128 + i.val < 512 := by omega

/-- A head among the eight. -/
theorem lt_head (k : Fin 2) (g : Fin 4) : k.val * 4 + g.val < 8 := by omega

/-- A column of the keys and values. -/
theorem lt_keys (k : Fin 256) : 512 + k.val < 5888 := by omega

/-- A column of the queries. -/
theorem lt_query (k : Fin 512) : k.val < 5888 := by omega

/-- A row of the chunk before. -/
theorem lt_before (b n : Fin 16) (i : Fin 128) : b.val * 2048 + (n.val * 128 + i.val - 128) < 32768 := by omega

/-! ## Loads -/

/-- A cut of a block's rows and columns at an index. -/
theorem cut_ld (x0 : FVec Ideal S512x5888 .bf16) (c : Fin 4) (o w : ℕ) (h : o + w ≤ 5888) (i : Fin 128) (k : Fin w) :
    cut x0 c o w h (ix2 i k) = x0 (ix2 ⟨128 * c.val + i.val, by omega⟩ ⟨o + k.val, by omega⟩) :=
  View.ld_unit_apply_of _ _ _ _ _ _ fun a => by
    match a with
    | ⟨0, _⟩ => rfl
    | ⟨1, _⟩ => rfl

/-- One head's slab of a table at an index. -/
theorem slab_ld (h : Fin 4) {a b : ℕ} (x : FVec Ideal ⟨3, ![4, a, b]⟩ .f32) (i : Fin a) (j : Fin b) :
    slab h x (ix3 0 i j) = x (ix3 h i j) :=
  View.ld_unit_apply_of _ _ _ _ _ _ fun a => by
    match a with
    | ⟨0, _⟩ => rfl
    | ⟨1, _⟩ => exact (Nat.zero_add _).symm
    | ⟨2, _⟩ => exact (Nat.zero_add _).symm

/-- One key head's half of a table at an index. -/
theorem half_ld (k : Fin 2) {a b : ℕ} (x : FVec Ideal ⟨3, ![2, a, b]⟩ .f32) (i : Fin a) (j : Fin b) :
    half k x (ix3 0 i j) = x (ix3 k i j) :=
  View.ld_unit_apply_of _ _ _ _ _ _ fun a => by
    match a with
    | ⟨0, _⟩ => rfl
    | ⟨1, _⟩ => exact (Nat.zero_add _).symm
    | ⟨2, _⟩ => exact (Nat.zero_add _).symm

section block

variable (P : Fin 32768 → Fin 5888 → EReal) (b : Fin 16) (q : Fin 4)

/-- The number of chunk `c` of block `q` of a batch. -/
abbrev chunkNo (q c : Fin 4) : Fin 16 := ⟨4 * q.val + c.val, by omega⟩

variable (x0 : FVec Ideal S512x5888 .bf16) (hx : ∀ (c : Fin 4) (i : Fin 128) (k : Fin 5888),
  x0 (ix2 ⟨128 * c.val + i.val, lt_row c i⟩ k) = P (rowAt b (chunkNo q c) i) k)

include hx in
/-- A cut of a step's rows is a cut of the projection. -/
theorem cut_at (c : Fin 4) (o w : ℕ) (h : o + w ≤ 5888) (i : Fin 128) (k : Fin w) :
    cut x0 c o w h (ix2 i k) = P (rowAt b (chunkNo q c) i) ⟨o + k.val, by omega⟩ :=
  (cut_ld x0 c o w h i k).trans (hx c i _)

/-! ## The retention -/

variable (x6 : FVec Ideal S4x128x128 .f32) (h6 : ∀ h i j, x6 (ix3 h i j) = decayIn h i j * keyScale)
  (x7 : FVec Ideal S4x128x1 .f32) (h7 : ∀ h i, x7 (ix3 h i 0) = decayQ h i)
  (x8 : FVec Ideal S4x128x1 .f32) (h8 : ∀ h i, x8 (ix3 h i 0) = decayK h i * keyScale)
  (x9 : FVec Ideal S4 .f32) (h9 : ∀ h, x9 (ix1 h) = decayC h)
  (st : FVec Ideal S4x128x256 .f32) (hst : ∀ h d v, st (ix3 h d v) = stateAt P b h (4 * q.val) d v)

include hx h8 h9 hst in
/-- The state after some chunks of a block is the recurrence's state. -/
theorem states_at (h : Fin 4) (n : ℕ) (hn : n ≤ 4) (d : Fin 128) (v : Fin 256) :
    states x0 x8 x9 st h n (ix3 0 d v) = stateAt P b h (4 * q.val + n) d v := by
  induction n generalizing d v with
  | zero => exact (slab_ld h st d v).trans (hst h d v)
  | succ n ih =>
    have hf : (Fin.ofNat 4 n : Fin 4) = ⟨n, hn⟩ := Fin.ext (Nat.mod_eq_of_lt hn)
    have hg : (Fin.ofNat 16 (4 * q.val + n)) = chunkNo q ⟨n, hn⟩ := Fin.ext (Nat.mod_eq_of_lt (by omega))
    have hc : View.ld (Val := Elt Ideal) (e' := .f32) x9 (Rect.unit (s := S4) ![h.val] ![1]
        (fun i => by have := h.isLt; fin_cases i; change h.val + 1 ≤ 4; omega)) (Shape.Idx.first (s := ⟨1, ![1]⟩) (by decide)) = decayC h :=
      (View.ld_unit_apply_of _ _ _ _ _ (ix1 h) fun a => by
        match a with
        | ⟨0, _⟩ => rfl).trans (h9 h)
    have hs : stateAt P b h (4 * q.val + (n + 1)) d v = decayC h * stateAt P b h (4 * q.val + n) d v
        + ∑ i, rk P b (chunkNo q ⟨n, hn⟩) h i d * keyScale * decayK h i * rv P b (chunkNo q ⟨n, hn⟩) h i v := by
      rw [← hg]
      rfl
    have h8' : ∀ i, slab h x8 (ix3 0 i 0) = decayK h i * keyScale := fun i => (slab_ld h x8 i 0).trans (h8 h i)
    rw [states, carry_at, hc, ih (by omega), hf, hs]
    congr 1
    refine Finset.sum_congr rfl fun i _ => ?_
    rw [cut_at P b q x0 hx, cut_at P b q x0 hx, h8', ← mul_assoc, mul_right_comm (P _ _) (decayK h i)]
    have ek : (⟨1280 + 128 * h.val + d.val, by omega⟩ : Fin 5888) = ⟨1280 + (h.val * 128 + d.val), by omega⟩ := Fin.ext (by dsimp only; omega)
    have ev : (⟨1792 + 256 * h.val + v.val, by omega⟩ : Fin 5888) = ⟨1792 + (h.val * 256 + v.val), by omega⟩ := Fin.ext (by dsimp only; omega)
    rw [ek, ev]

include hx h6 h7 h8 h9 hst in
/-- A head's retention in a chunk of a block is the retention of the recurrence. -/
theorem retain_eq (c h : Fin 4) (i : Fin 128) (v : Fin 256) :
    retain (cut x0 c (768 + 128 * h.val) 128 (by omega)) (cut x0 c (1280 + 128 * h.val) 128 (by omega))
      (cut x0 c (1792 + 256 * h.val) 256 (by omega)) (states x0 x8 x9 st h c.val) (slab h x6) (slab h x7) (ix2 i v)
      = ret P b (chunkNo q c) h i v := by
  have hq : ∀ (i d : Fin 128), cut x0 c (768 + 128 * h.val) 128 (by omega) (ix2 i d) = rq P b (chunkNo q c) h i d := fun i d => by
    rw [cut_at P b q x0 hx]
    exact congrArg _ (Fin.ext (by dsimp only; omega))
  have hk : ∀ (i d : Fin 128), cut x0 c (1280 + 128 * h.val) 128 (by omega) (ix2 i d) = rk P b (chunkNo q c) h i d := fun i d => by
    rw [cut_at P b q x0 hx]
    exact congrArg _ (Fin.ext (by dsimp only; omega))
  have hv : ∀ (i : Fin 128) (v : Fin 256), cut x0 c (1792 + 256 * h.val) 256 (by omega) (ix2 i v) = rv P b (chunkNo q c) h i v := fun i v => by
    rw [cut_at P b q x0 hx]
    exact congrArg _ (Fin.ext (by dsimp only; omega))
  have h6' : ∀ i j, slab h x6 (ix3 0 i j) = decayIn h i j * keyScale := fun i j => (slab_ld h x6 i j).trans (h6 h i j)
  have h7' : ∀ i, slab h x7 (ix3 0 i 0) = decayQ h i := fun i => (slab_ld h x7 i 0).trans (h7 h i)
  rw [retain_at, ret]
  simp only [hq, hk, hv, h6', h7', states_at P b q x0 hx x8 h8 x9 h9 st hst h c.val (by omega)]
  congr 1
  exact Finset.sum_congr rfl fun j _ => by rw [← mul_assoc, mul_right_comm (∑ d, _) (decayIn h i j)]

variable (x10 : FVec Ideal S1x1024 .f32) (g : Fin 1024 → EReal) (h10 : ∀ k, x10 (ix2 0 k) = g k)

include hx h6 h7 h8 h9 hst h10 in
/-- A head's retention after norm and gate. -/
theorem head_at (c h : Fin 4) (i : Fin 128) (v : Fin 256) :
    head x0 x6 x7 x8 x9 x10 st c h (ix2 i v) = headGate (ret P b (chunkNo q c) h i) (fun v => g ⟨h.val * 256 + v.val, by omega⟩)
      (fun v => P (rowAt b (chunkNo q c) i) ⟨2816 + (h.val * 256 + v.val), by omega⟩) v := by
  rw [head, gate_at]
  congr 1
  · exact funext fun v => retain_eq P b q x0 hx x6 h6 x7 h7 x8 h8 x9 h9 st hst c h i v
  · funext v
    rw [← h10]
    exact View.ld_unit_apply_of _ _ _ _ _ _ fun a => by
      match a with
      | ⟨0, _⟩ => rfl
      | ⟨1, _⟩ => exact congrArg (· + v.val) (Nat.mul_comm _ _)
  · funext v
    rw [cut_at P b q x0 hx]
    exact congrArg _ (Fin.ext (by dsimp only; omega))

include hx h6 h7 h8 h9 hst h10 in
/-- The heads of a block side by side. -/
theorem tiles_at (c : Fin 4) (i : Fin 128) (k : Fin 1024) :
    tilesOf (head x0 x6 x7 x8 x9 x10 st) (ix2 ⟨128 * c.val + i.val, by omega⟩ k) = gatedRet P g b (chunkNo q c) i k := by
  have e : tilesOf (head x0 x6 x7 x8 x9 x10 st) (ix2 ⟨128 * c.val + i.val, by omega⟩ k)
      = head x0 x6 x7 x8 x9 x10 st c ⟨k.val / 256, by omega⟩ (ix2 i ⟨k.val % 256, by omega⟩) := by
    have hc : (⟨(128 * c.val + i.val) / 128, by omega⟩ : Fin 4) = c := Fin.ext (by dsimp only; omega)
    have hi : (⟨(128 * c.val + i.val) % 128, by omega⟩ : Fin 128) = i := Fin.ext (by dsimp only; omega)
    change head x0 x6 x7 x8 x9 x10 st ⟨(128 * c.val + i.val) / 128, by omega⟩ ⟨k.val / 256, by omega⟩
      (ix2 ⟨(128 * c.val + i.val) % 128, by omega⟩ ⟨k.val % 256, by omega⟩) = _
    rw [hc, hi]
  rw [e, head_at P b q x0 hx x6 h6 x7 h7 x8 h8 x9 h9 st hst x10 g h10]
  rfl

end block

/-! ## The attention -/

section attention

variable (P : Fin 32768 → Fin 5888 → EReal) (b n : Fin 16) (sk : Fin 8 → EReal)
  (lo hi : FVec Ideal S128x256 .bf16) (qm : FVec Ideal S128x512 .bf16)
  (hlo : 0 < n.val → ∀ (i : Fin 128) (k : Fin 256), lo (ix2 i k) = P ⟨b.val * 2048 + (n.val * 128 + i.val - 128), lt_before b n i⟩ ⟨512 + k.val, lt_keys k⟩)
  (hhi : ∀ (i : Fin 128) (k : Fin 256), hi (ix2 i k) = P (rowAt b n i) ⟨512 + k.val, lt_keys k⟩)
  (hqm : ∀ (i : Fin 128) (k : Fin 512), qm (ix2 i k) = P (rowAt b n i) ⟨k.val, lt_query k⟩)

include hlo hhi in
/-- The two chunks of keys and values, one below the other, are the rows that the chunk sees. -/
theorem pair_band (j : Fin 256) (h : 128 ≤ n.val * 128 + j.val) (k : Fin 256) :
    pair lo hi (ix2 j k) = band P b n j ⟨512 + k.val, by omega⟩ := by
  rw [pair_at, band, dif_pos h]
  split
  · next hj => rw [hlo (by omega)]
  · next hj =>
    rw [hhi]
    exact congrArg (fun r => P r _) (Fin.ext (by dsimp only; omega))

variable (x3 : FVec Ideal S2x512x256 .f32) (h3 : ∀ (k : Fin 2) (g : Fin 4) (i : Fin 128) (j : Fin 256),
    x3 (ix3 k ⟨g.val * 128 + i.val, lt_group g i⟩ j) = Scalar.select (near i j)
      (-slope ⟨k.val * 4 + g.val, lt_head k g⟩ * FloatOps.sitofp (F := Ideal) .f32 (distWord i j)) ⊥)
  (x5 : FVec Ideal S2x512x1 .f32) (h5 : ∀ (k : Fin 2) (g : Fin 4) (i : Fin 128), x5 (ix3 k ⟨g.val * 128 + i.val, lt_group g i⟩ 0) = sk ⟨k.val * 4 + g.val, lt_head k g⟩)

/-- The table added to a product is the penalty taken off, and minus infinity where a key is not seen. -/
theorem add_table (w : BitVec 1) (a s d : EReal) : a + Scalar.select w (-s * d) ⊥ = Scalar.select w (a - s * d) ⊥ := by
  unfold Scalar.select
  split
  · rw [EReal.neg_mul, sub_eq_add_neg]
  · exact EReal.add_bot a

include hlo hhi hqm h3 in
/-- The first key head's scores with the table, where the keys are in the batch. -/
theorem scores0_at (g : Fin 4) (i : Fin 128) (j : Fin 256) (h : 128 ≤ n.val * 128 + j.val) :
    scores (queries0 qm) (keys0 (pair lo hi)) (half 0 x3) (ix2 ⟨g.val * 128 + i.val, by omega⟩ j)
      = score P b n ⟨(0 : Fin 2).val * 4 + g.val, by omega⟩ i j := by
  have hk : ∀ d : Fin 64, keys0 (pair lo hi) (ix2 j d) = pair lo hi (ix2 j ⟨d.val, by omega⟩) := fun d => by pointwise [keys0]
  rw [scores_at, half_ld, h3, add_table, score, if_neg (by omega), penaltyOf]
  simp only [queries0_at, hk, hqm, pair_band P b n lo hi hlo hhi j h]
  congr 3
  refine Finset.sum_congr rfl fun d _ => ?_
  congr 2 <;> exact Fin.ext (by simp only [Fin.val_zero]; omega)

include hlo hhi hqm h3 in
/-- The second key head's scores with the table, where the keys are in the batch. -/
theorem scores1_at (g : Fin 4) (i : Fin 128) (j : Fin 256) (h : 128 ≤ n.val * 128 + j.val) :
    scores (queries1 qm) (keys1 (pair lo hi)) (half 1 x3) (ix2 ⟨g.val * 128 + i.val, by omega⟩ j)
      = score P b n ⟨(1 : Fin 2).val * 4 + g.val, by omega⟩ i j := by
  have hk : ∀ d : Fin 64, keys1 (pair lo hi) (ix2 j d) = pair lo hi (ix2 j ⟨64 + d.val, by omega⟩) := fun d => by pointwise [keys1]
  rw [scores_at, half_ld, h3, add_table, score, if_neg (by omega), penaltyOf]
  simp only [queries1_at, hk, hqm, pair_band P b n lo hi hlo hhi j h]
  congr 3
  refine Finset.sum_congr rfl fun d _ => ?_
  congr 2 <;> exact Fin.ext (by simp only [Fin.val_one]; omega)

/-- A head whose scores are the row's, and whose values are the row's where a key is seen. -/
theorem attend_eq (s : FVec Ideal S512x256 .f32) (v : FVec Ideal S256x64 .bf16) (z : FVec Ideal S1x512x1 .f32) (r : Fin 512) (x : Fin 64) (h : Fin 8)
    (i : Fin 128) (hs : ∀ j, s (ix2 r j) = score P b n h i j) (hz : z (ix3 0 r 0) = sk h) (c : Fin 5888)
    (hv : ∀ j : Fin 256, 128 ≤ n.val * 128 + j.val → v (ix2 j x) = band P b n j c) :
    attend s v z (ix2 r x) = rowAtt (score P b n h i) (sk h) (fun j => band P b n j c) := by
  rw [attend_at, hz, show (fun j => s (ix2 r j)) = score P b n h i from funext hs]
  refine rowAtt_congr _ _ _ _ fun j hj => hv j ?_
  by_contra hlt
  exact hj (if_pos (by omega))

variable (s0 s1 : FVec Ideal S512x256 .f32)
  (hs0 : ∀ (g : Fin 4) (i : Fin 128) (j : Fin 256), s0 (ix2 ⟨g.val * 128 + i.val, lt_group g i⟩ j) = score P b n ⟨(0 : Fin 2).val * 4 + g.val, lt_head 0 g⟩ i j)
  (hs1 : ∀ (g : Fin 4) (i : Fin 128) (j : Fin 256), s1 (ix2 ⟨g.val * 128 + i.val, lt_group g i⟩ j) = score P b n ⟨(1 : Fin 2).val * 4 + g.val, lt_head 1 g⟩ i j)

include hlo hhi h5 hs0 hs1 in
/-- The eight heads of a chunk side by side, from their scores. -/
theorem heads_at (i : Fin 128) (k : Fin 512) :
    sideBySide (attend s0 (values0 (pair lo hi)) (half 0 x5)) (attend s1 (values1 (pair lo hi)) (half 1 x5)) (ix2 i k)
      = att P sk b n i k := by
  have v0 : ∀ (j : Fin 256) (d : Fin 64), values0 (pair lo hi) (ix2 j d) = pair lo hi (ix2 j ⟨128 + d.val, by omega⟩) := fun j d => by pointwise [values0]
  have v1 : ∀ (j : Fin 256) (d : Fin 64), values1 (pair lo hi) (ix2 j d) = pair lo hi (ix2 j ⟨192 + d.val, by omega⟩) := fun j d => by pointwise [values1]
  by_cases hk : k.val < 256
  · have e : k = ⟨(⟨k.val / 64, by omega⟩ : Fin 4).val * 64 + (⟨k.val % 64, by omega⟩ : Fin 64).val, by omega⟩ := Fin.ext (by dsimp only; omega)
    have hh : (⟨k.val / 64, by omega⟩ : Fin 8) = ⟨(0 : Fin 2).val * 4 + (⟨k.val / 64, by omega⟩ : Fin 4).val, by simp only [Fin.val_zero]; omega⟩ :=
      Fin.ext (by simp only [Fin.val_zero]; omega)
    have a := sideBySide_at0 (attend s0 (values0 (pair lo hi)) (half 0 x5)) (attend s1 (values1 (pair lo hi)) (half 1 x5)) ⟨k.val / 64, by omega⟩ i ⟨k.val % 64, by omega⟩
    rw [← e] at a
    rw [a, att, hh]
    refine attend_eq P b n sk _ _ _ _ _ _ i (hs0 _ i) ((half_ld 0 x5 _ _).trans (h5 0 _ i)) _ fun j hj => ?_
    rw [v0, pair_band P b n lo hi hlo hhi j hj]
    exact congrArg _ (Fin.ext (by dsimp only; omega))
  · have e : k = ⟨256 + ((⟨k.val / 64 - 4, by omega⟩ : Fin 4).val * 64 + (⟨k.val % 64, by omega⟩ : Fin 64).val), by dsimp only; omega⟩ := Fin.ext (by dsimp only; omega)
    have hh : (⟨k.val / 64, by omega⟩ : Fin 8) = ⟨(1 : Fin 2).val * 4 + (⟨k.val / 64 - 4, by omega⟩ : Fin 4).val, by simp only [Fin.val_one]; omega⟩ :=
      Fin.ext (by simp only [Fin.val_one]; omega)
    have a := sideBySide_at1 (attend s0 (values0 (pair lo hi)) (half 0 x5)) (attend s1 (values1 (pair lo hi)) (half 1 x5)) ⟨k.val / 64 - 4, by omega⟩ i ⟨k.val % 64, by omega⟩
    rw [← e] at a
    rw [a, att, hh]
    refine attend_eq P b n sk _ _ _ _ _ _ i (hs1 _ i) ((half_ld 1 x5 _ _).trans (h5 1 _ i)) _ fun j hj => ?_
    rw [v1, pair_band P b n lo hi hlo hhi j hj]
    exact congrArg _ (Fin.ext (by simp only [Fin.val_one]; omega))

end attention

section rows

variable (P : Fin 32768 → Fin 5888 → EReal) (b : Fin 16) (q : Fin 4) (sk : Fin 8 → EReal)
  (x0 : FVec Ideal S512x5888 .bf16) (hx : ∀ (c : Fin 4) (i : Fin 128) (k : Fin 5888),
  x0 (ix2 ⟨128 * c.val + i.val, lt_row c i⟩ k) = P (rowAt b (chunkNo q c) i) k)
  (x1 : FVec Ideal S128x256 .bf16) (hx1 : 0 < q.val → ∀ (i : Fin 128) (k : Fin 256),
    x1 (ix2 i k) = P ⟨b.val * 2048 + ((chunkNo q 0).val * 128 + i.val - 128), lt_before b (chunkNo q 0) i⟩ ⟨512 + k.val, lt_keys k⟩)
  (x3 : FVec Ideal S2x512x256 .f32) (h3 : ∀ (k : Fin 2) (g : Fin 4) (i : Fin 128) (j : Fin 256),
    x3 (ix3 k ⟨g.val * 128 + i.val, lt_group g i⟩ j) = Scalar.select (near i j)
      (-slope ⟨k.val * 4 + g.val, lt_head k g⟩ * FloatOps.sitofp (F := Ideal) .f32 (distWord i j)) ⊥)
  (x5 : FVec Ideal S2x512x1 .f32) (h5 : ∀ (k : Fin 2) (g : Fin 4) (i : Fin 128), x5 (ix3 k ⟨g.val * 128 + i.val, lt_group g i⟩ 0) = sk ⟨k.val * 4 + g.val, lt_head k g⟩)
  (f : FVec Ideal S1x256 .f32) (hf : ∀ j : Fin 256, f (ix2 0 j) = if q.val = 0 ∧ j.val < 128 then ⊥ else 0)

include hx in
/-- The queries of a chunk of a block. -/
theorem cut_queries (c : Fin 4) (i : Fin 128) (k : Fin 512) : cut x0 c 0 512 (by omega) (ix2 i k) = P (rowAt b (chunkNo q c) i) ⟨k.val, by omega⟩ := by
  rw [cut_at P b q x0 hx]
  exact congrArg _ (Fin.ext (Nat.zero_add _))

include hx hx1 h3 h5 hf in
/-- The attention of a block's first chunk, whose keys before it come by a window of their own. -/
theorem chunk0_at (i : Fin 128) (k : Fin 512) : chunk0 x0 x1 x3 x5 f (ix2 i k) = att P sk b (chunkNo q 0) i k := by
  have hlo : 0 < (chunkNo q 0).val → ∀ (i : Fin 128) (k : Fin 256),
      x1 (ix2 i k) = P ⟨b.val * 2048 + ((chunkNo q 0).val * 128 + i.val - 128), by have := (chunkNo q 0).isLt; omega⟩ ⟨512 + k.val, by omega⟩ :=
    fun h => hx1 (by change 0 < 4 * q.val + 0 at h; omega)
  have hhi := cut_at P b q x0 hx 0 512 256 (by omega)
  have hqm := cut_queries P b q x0 hx 0
  refine heads_at P b (chunkNo q 0) sk _ _ hlo hhi x5 h5 _ _ ?_ ?_ i k
  · intro g i j
    rw [hide_at, hf]
    split
    · next h => rw [EReal.add_bot, score, if_pos (by change (4 * q.val + 0) * 128 + _ < _; omega)]
    · next h => rw [add_zero]; exact scores0_at P b _ _ _ _ hlo hhi hqm x3 h3 g i j (by change 128 ≤ (4 * q.val + 0) * 128 + _; omega)
  · intro g i j
    rw [hide_at, hf]
    split
    · next h => rw [EReal.add_bot, score, if_pos (by change (4 * q.val + 0) * 128 + _ < _; omega)]
    · next h => rw [add_zero]; exact scores1_at P b _ _ _ _ hlo hhi hqm x3 h3 g i j (by change 128 ≤ (4 * q.val + 0) * 128 + _; omega)

include hx h3 h5 in
/-- The attention of a block's later chunks. -/
theorem chunk_at (p c : Fin 4) (hpc : p.val + 1 = c.val) (i : Fin 128) (k : Fin 512) : chunk x0 x3 x5 p c (ix2 i k) = att P sk b (chunkNo q c) i k := by
  have hlo : 0 < (chunkNo q c).val → ∀ (i : Fin 128) (k : Fin 256),
      cut x0 p 512 256 (by omega) (ix2 i k) = P ⟨b.val * 2048 + ((chunkNo q c).val * 128 + i.val - 128), by have := (chunkNo q c).isLt; omega⟩ ⟨512 + k.val, by omega⟩ :=
    fun _ i k => (cut_at P b q x0 hx p 512 256 (by omega) i k).trans (congrArg (fun r => P r _) (Fin.ext (by dsimp only; omega)))
  have hhi := cut_at P b q x0 hx c 512 256 (by omega)
  have hqm := cut_queries P b q x0 hx c
  exact heads_at P b (chunkNo q c) sk _ _ hlo hhi x5 h5 _ _
    (fun g i j => scores0_at P b _ _ _ _ hlo hhi hqm x3 h3 g i j (by dsimp only; omega))
    (fun g i j => scores1_at P b _ _ _ _ hlo hhi hqm x3 h3 g i j (by dsimp only; omega)) i k

include hx hx1 h3 h5 hf in
/-- The attention of a block, its chunks one below the other. -/
theorem rows_at (c : Fin 4) (i : Fin 128) (k : Fin 512) :
    rowsOf (attention x0 x1 x3 x5 f) (ix2 ⟨128 * c.val + i.val, by omega⟩ k) = att P sk b (chunkNo q c) i k := by
  have e : rowsOf (attention x0 x1 x3 x5 f) (ix2 ⟨128 * c.val + i.val, by omega⟩ k) = attention x0 x1 x3 x5 f c (ix2 i k) := by
    have hc : (⟨(128 * c.val + i.val) / 128, by omega⟩ : Fin 4) = c := Fin.ext (by dsimp only; omega)
    have hi : (⟨(128 * c.val + i.val) % 128, by omega⟩ : Fin 128) = i := Fin.ext (by dsimp only; omega)
    change attention x0 x1 x3 x5 f ⟨(128 * c.val + i.val) / 128, by omega⟩ (ix2 ⟨(128 * c.val + i.val) % 128, by omega⟩ k) = _
    rw [hc, hi]
  rw [e]
  match c with
  | ⟨0, _⟩ => exact chunk0_at P b q sk x0 hx x1 hx1 x3 h3 x5 h5 f hf i k
  | ⟨1, _⟩ => exact chunk_at P b q sk x0 hx x3 h3 x5 h5 0 1 rfl i k
  | ⟨2, _⟩ => exact chunk_at P b q sk x0 hx x3 h3 x5 h5 1 2 rfl i k
  | ⟨3, _⟩ => exact chunk_at P b q sk x0 hx x3 h3 x5 h5 2 3 rfl i k

end rows

end Cert.Proof.Mix

end
-- ==== Proof.MixArray.lean ====
/-
  The mixer's result array: the state over the steps, each block written, and the whole array.
-/
module

public import proofs.«01_k».proof.Proof.MixKernelTables
public import proofs.«01_k».proof.Proof.MixKernelBlock
public import proofs.«01_k».proof.Proof.MixBlock

@[expose] public section

set_option maxRecDepth 16384

noncomputable section

namespace Cert.Proof.Mix

open Idealize.ShloMosaic Idealize.ShloMosaic.TcCoe Idealize.ShloMosaic.Pipeline Cert.KernelIdeal Cert.KernelIdeal.Gen Cert.KernelIdeal.Facts

/-- The rows after the call's last operations, at an index. -/
theorem merge_at (x : FVec Ideal S512x512 .bf16) (wa : FVec Ideal S512x1024 .bf16) (r : FVec Ideal S512x1024 .bf16)
    (wr : FVec Ideal S1024x1024 .bf16) (ga gr : FVec Ideal S512x1024 .bf16) (y : FVec Ideal S512x1024 .f32) (wo : FVec Ideal S1024x1024 .bf16)
    (i : Fin 512) (k : Fin 1024) :
    k0_pay141 (F := Ideal) x wa r wr ga gr y wo (ix2 i k) = y (ix2 i k) + ∑ l : Fin 1024,
      (Ideal.logistic (ga (ix2 i l)) * (∑ a : Fin 512, x (ix2 i a) * wa (ix2 a l))
        + Ideal.logistic (gr (ix2 i l)) * (∑ a : Fin 1024, r (ix2 i a) * wr (ix2 a l))) * wo (ix2 l k) := by
  pointwise [k0_pay141]

/-- The constant that hides a key is minus infinity. -/
theorem mask_eq : (Named.named κ "mask" 0xF149F2CA#32 : Ideal .f32) = (⊥ : EReal) :=
  rfl

/-- The row of masks: minus infinity for the keys before a batch's first block, and zero else. -/
theorem masks_at (i : grid0.Coords) (f : FVec Ideal S1x256 .f32)
    (hf : ∀ j : Fin 256, f (ix2 0 j) = Scalar.select (IntOp.cmpi .slt (BitVec.ofNat 32 j.val) 128#32) (1 : EReal) 0) (j : Fin 256) :
    k0_pay2 (F := Ideal) i f (ix2 0 j) = if (i 1).val = 0 ∧ j.val < 128 then ⊥ else 0 := by
  have hj : IntOp.cmpi .slt (BitVec.ofNat 32 j.val) 128#32 = if j.val < 128 then 1#1 else 0#1 :=
    (by decide +kernel : ∀ a : Fin 256, IntOp.cmpi .slt (BitVec.ofNat 32 a.val) 128#32 = if a.val < 128 then 1#1 else 0#1) j
  have hi : Scalar.cmpi .eq (BitVec.ofNat 32 (i 1).val) 0#32 = if (i 1).val = 0 then 1#1 else 0#1 :=
    (by decide +kernel : ∀ a : Fin 4, Scalar.cmpi .eq (BitVec.ofNat 32 a.val) 0#32 = if a.val = 0 then 1#1 else 0#1) (i 1)
  have e : k0_pay2 (F := Ideal) i f (ix2 0 j) = f (ix2 0 j) * Scalar.select (Scalar.cmpi .eq (BitVec.ofNat 32 (i 1).val) 0#32)
      (Named.named κ "mask" 0xF149F2CA#32 : Ideal .f32) 0 := by
    pointwise [k0_pay2]
  rw [e, hf, hj, hi, mask_eq]
  by_cases h0 : (i 1).val = 0 <;> by_cases h1 : j.val < 128 <;> simp [h0, h1, Scalar.select]

/-- A batch starts from nothing. -/
theorem nothing_at (h : Fin 4) (d : Fin 128) (v : Fin 256) : k0_pay1 (F := Ideal) (ix3 h d v) = (0 : EReal) := by
  pointwise [k0_pay1]

variable (m : (ℓ : Loc nD τ sig) → Buf (Elt Ideal) ℓ) (c : Dev nD)

/-- The projection's array. -/
abbrev proj : Fin 32768 → Fin 5888 → EReal := fun r k => m ((c : Thread nD τ).loc main_arg0) (ix2 r k)

/-- The batch of step `t`. -/
abbrev batchOf (t : Fin cfg0.N) : Fin 16 := ⟨t.val / 4, by have h : t.val < 64 := t.isLt; omega⟩
/-- The block of its batch that step `t` is. -/
abbrev partOf (t : Fin cfg0.N) : Fin 4 := ⟨t.val % 4, Nat.mod_lt _ (by decide)⟩

/-- A step's rows. -/
theorem in_rows (t : Fin cfg0.N) (k : Fin 4) (i : Fin 128) (l : Fin 5888) :
    (iblk m c 0 t : Vec Ideal S512x5888 .bf16) (ix2 ⟨128 * k.val + i.val, by omega⟩ l) = proj m c (rowAt (batchOf t) (chunkNo (partOf t) k) i) l := by
  rw [blk0]
  exact congrArg (fun r => proj m c r l) (Fin.ext (by dsimp only; omega))

/-- The rows before a step. -/
theorem in_before (t : Fin cfg0.N) (h : 0 < (partOf t).val) (i : Fin 128) (l : Fin 256) :
    (shapeCast S128x256 (iblk m c 1 t : Vec Ideal S128x256 .bf16) shapeCasts_S128x256_S128x256 : FVec Ideal S128x256 .bf16) (ix2 i l)
      = proj m c ⟨(batchOf t).val * 2048 + ((chunkNo (partOf t) 0).val * 128 + i.val - 128), by have := (chunkNo (partOf t) 0).isLt; omega⟩ ⟨512 + l.val, by omega⟩ := by
  have e : (shapeCast S128x256 (iblk m c 1 t : Vec Ideal S128x256 .bf16) shapeCasts_S128x256_S128x256 : FVec Ideal S128x256 .bf16) (ix2 i l)
      = (iblk m c 1 t : Vec Ideal S128x256 .bf16) (ix2 i l) := by
    generalize (iblk m c 1 t : Vec Ideal S128x256 .bf16) = x
    pointwise
  rw [e, emb1, kv_at]
  refine congrArg (fun r => proj m c r _) (Fin.ext ?_)
  have h' : 0 < t.val % 4 := h
  change (4 * t.val - 1) * 128 + i.val = t.val / 4 * 2048 + ((4 * (t.val % 4) + 0) * 128 + i.val - 128)
  omega

/-- The bias table a step reads: minus slope times distance in the window, minus infinity outside. -/
theorem in_bias (t : Fin cfg0.N) (k : Fin 2) (g : Fin 4) (i : Fin 128) (j : Fin 256) :
    (iblk m c 3 t : Vec Ideal S2x512x256 .f32) (ix3 k ⟨g.val * 128 + i.val, by omega⟩ j) = Scalar.select (near i j)
      (-slope ⟨k.val * 4 + g.val, by omega⟩ * FloatOps.sitofp (F := Ideal) .f32 (distWord i j)) (⊥ : EReal) := by
  rw [emb3, bias_at, show Ideal.ofBits .f32 0xFF800000#32 = (⊥ : EReal) from by simp [Ideal.ofBits, Ideal.ieee]]

/-- The sinks a step reads, one for each row of a group. -/
theorem in_sink (t : Fin cfg0.N) (k : Fin 2) (g : Fin 4) (i : Fin 128) :
    (iblk m c 5 t : Vec Ideal S2x512x1 .f32) (ix3 k ⟨g.val * 128 + i.val, by omega⟩ 0)
      = (fun h : Fin 8 => m ((c : Thread nD τ).loc main_arg2) (ix1 h)) ⟨k.val * 4 + g.val, by omega⟩ :=
  (emb5 m c t _ _).trans (sink_at m c k g i)

/-- The mask a step adds to its first chunk: minus infinity for the keys before the batch, else zero. -/
theorem in_masks (t : Fin cfg0.N) (j : Fin 256) :
    k0_pay2 (F := Ideal) (grid0.coords t) (iblk m c 4 t) (ix2 0 j) = if (partOf t).val = 0 ∧ j.val < 128 then (⊥ : EReal) else 0 := by
  rw [masks_at _ _ fun j => (emb4 m c t j).trans (fmask_at m c j), coord1 t]

/-- The decays inside a chunk that a step reads, with the keys' scale. -/
theorem in_decayIn (t : Fin cfg0.N) (h : Fin 4) (i j : Fin 128) : (iblk m c 6 t : Vec Ideal S4x128x128 .f32) (ix3 h i j) = decayIn h i j * keyScale :=
  (emb6 m c t h i j).trans (din_at m c h i j)

/-- The decays of the entering state that a step reads. -/
theorem in_decayQ (t : Fin cfg0.N) (h : Fin 4) (i : Fin 128) : (iblk m c 7 t : Vec Ideal S4x128x1 .f32) (ix3 h i 0) = decayQ h i :=
  (emb7 m c t h i).trans (dq_at m c h i)

/-- The decays into the leaving state that a step reads, with the keys' scale. -/
theorem in_decayK (t : Fin cfg0.N) (h : Fin 4) (i : Fin 128) : (iblk m c 8 t : Vec Ideal S4x128x1 .f32) (ix3 h i 0) = decayK h i * keyScale :=
  (emb8 m c t h i).trans (dk_at m c h i)

/-- The decays over a chunk that a step reads. -/
theorem in_decayC (t : Fin cfg0.N) (h : Fin 4) : (iblk m c 9 t : Vec Ideal S4 .f32) (ix1 h) = decayC h :=
  (emb9 m c t h).trans (dc_at m c h)

/-- The head norm's gain that a step reads. -/
theorem in_gain (t : Fin cfg0.N) (k : Fin 1024) : (iblk m c 10 t : Vec Ideal S1x1024 .f32) (ix2 0 k) = (fun k : Fin 1024 => m ((c : Thread nD τ).loc main_arg3) (ix1 k)) k :=
  (emb10 m c t k).trans (gain_at m c k)

/-- The state a step leaves. -/
theorem leaving (t : ℕ) (ht : t < cfg0.N) (h : Fin 4) (d : Fin 128) (v : Fin 256) :
    (outsAt0 m c t ht).2 (ix3 h d v) = stateAt (proj m c) (batchOf ⟨t, ht⟩) h (4 * (t % 4) + 4) d v := by
  induction t using Nat.strong_induction_on generalizing h d v with
  | _ t ih =>
    by_cases h0 : t % 4 = 0
    · refine (state_A m c ⟨t, ht⟩ h0 (ix3 h d v)).trans ?_
      exact states_at (proj m c) (batchOf ⟨t, ht⟩) (partOf ⟨t, ht⟩) _ (in_rows m c ⟨t, ht⟩) _ (in_decayK m c ⟨t, ht⟩) _ (in_decayC m c ⟨t, ht⟩) _
        (fun h d v => by
          rw [nothing_at]
          change 0 = stateAt (proj m c) _ h (4 * (t % 4)) d v
          rw [h0]
          rfl) h 4 le_rfl d v
    · refine (state_B m c ⟨t, ht⟩ h0 (ix3 h d v)).trans ?_
      refine states_at (proj m c) (batchOf ⟨t, ht⟩) (partOf ⟨t, ht⟩) _ (in_rows m c ⟨t, ht⟩) _ (in_decayK m c ⟨t, ht⟩) _ (in_decayC m c ⟨t, ht⟩) _
        (fun h d v => ?_) h 4 le_rfl d v
      refine (ih (t - 1) (by omega) (Nat.lt_of_le_of_lt (Nat.sub_le _ _) ht) h d v).trans ?_
      have e1 : batchOf ⟨t - 1, Nat.lt_of_le_of_lt (Nat.sub_le _ _) ht⟩ = batchOf ⟨t, ht⟩ := Fin.ext (by dsimp only; omega)
      have e2 : 4 * ((t - 1) % 4) + 4 = 4 * (t % 4) := by omega
      rw [e1, e2]

/-- The state that enters a later step. -/
theorem entering (t : Fin cfg0.N) (h0 : ¬ t.val % 4 = 0) (h : Fin 4) (d : Fin 128) (v : Fin 256) :
    (outsAt0 m c (t.val - 1) (Nat.lt_of_le_of_lt (Nat.sub_le _ _) t.isLt)).2 (ix3 h d v) = stateAt (proj m c) (batchOf t) h (4 * (partOf t).val) d v := by
  refine (leaving m c (t.val - 1) (Nat.lt_of_le_of_lt (Nat.sub_le _ _) t.isLt) h d v).trans ?_
  have e1 : batchOf ⟨t.val - 1, Nat.lt_of_le_of_lt (Nat.sub_le _ _) t.isLt⟩ = batchOf t := Fin.ext (by dsimp only; omega)
  have e2 : 4 * ((t.val - 1) % 4) + 4 = 4 * (t.val % 4) := by omega
  rw [e1, e2]

/-- The mixer's result as one function of the argument arrays. -/
def mixed (p : FVec Ideal S32768x5888 .bf16) (x : FVec Ideal S32768x1024 .f32) (sk : FVec Ideal S8 .f32) (g : FVec Ideal S1024 .f32)
    (wa : FVec Ideal S512x1024 .f32) (wr wo : FVec Ideal S1024x1024 .f32) : FVec Ideal S32768x1024 .f32 := fun y =>
  mixer (fun r k => p (ix2 r k)) (fun r k => x (ix2 r k)) (fun h => sk (ix1 h)) (fun k => g (ix1 k)) (fun a k => wa (ix2 a k)) (fun a k => wr (ix2 a k))
    (fun a k => wo (ix2 a k)) ⟨(y 0).val / 2048, by have : (y 0).val < 32768 := (y 0).isLt; omega⟩
    ⟨(y 0).val % 2048 / 128, by omega⟩ ⟨(y 0).val % 128, by omega⟩ (y 1)

/-- A step's tile, from the state that enters it. -/
theorem tile_at (t : Fin cfg0.N) (st : FVec Ideal S4x128x256 .f32)
    (hst : ∀ h d v, st (ix3 h d v) = stateAt (proj m c) (batchOf t) h (4 * (partOf t).val) d v)
    (k : Fin 4) (i : Fin 128) (l : Fin 1024) :
    k0_pay141 (F := Ideal) (rowsOf (attention (iblk m c 0 t) (shapeCast S128x256 (iblk m c 1 t) shapeCasts_S128x256_S128x256) (iblk m c 3 t) (iblk m c 5 t)
        (k0_pay2 (F := Ideal) (grid0.coords t) (iblk m c 4 t))))
      (iblk m c 11 t)
      (tilesOf (head (iblk m c 0 t) (iblk m c 6 t) (iblk m c 7 t) (iblk m c 8 t) (iblk m c 9 t) (iblk m c 10 t) st))
      (iblk m c 12 t)
      (View.ld (Val := Elt Ideal) (e' := .bf16) (iblk m c 0 t) (Rect.unit ![0, 3840] ![512, 1024] inb_S512x5888_S512x1024_0_3840))
      (View.ld (Val := Elt Ideal) (e' := .bf16) (iblk m c 0 t) (Rect.unit ![0, 4864] ![512, 1024] inb_S512x5888_S512x1024_0_4864))
      (iblk m c 2 t)
      (iblk m c 13 t) (ix2 ⟨128 * k.val + i.val, by omega⟩ l)
      = mixer (proj m c) (fun r k => m ((c : Thread nD τ).loc main_arg1) (ix2 r k)) (fun h => m ((c : Thread nD τ).loc main_arg2) (ix1 h))
        (fun k => m ((c : Thread nD τ).loc main_arg3) (ix1 k)) (fun a k => m ((c : Thread nD τ).loc main_arg4) (ix2 a k))
        (fun a k => m ((c : Thread nD τ).loc main_arg5) (ix2 a k)) (fun a k => m ((c : Thread nD τ).loc main_arg6) (ix2 a k))
        (batchOf t) (chunkNo (partOf t) k) i l := by
  have hga : ∀ l : Fin 1024, View.ld (Val := Elt Ideal) (e' := .bf16) (iblk m c 0 t) (Rect.unit ![0, 3840] ![512, 1024] inb_S512x5888_S512x1024_0_3840)
      (ix2 ⟨128 * k.val + i.val, by omega⟩ l) = proj m c (rowAt (batchOf t) (chunkNo (partOf t) k) i) ⟨3840 + l.val, by omega⟩ := fun l =>
    (View.ld_unit_apply_of _ _ _ _ _ (ix2 ⟨128 * k.val + i.val, by omega⟩ ⟨3840 + l.val, by omega⟩) fun a => by
      match a with
      | ⟨0, _⟩ => exact (Nat.zero_add _).symm
      | ⟨1, _⟩ => rfl).trans (in_rows m c t k i _)
  have hgr : ∀ l : Fin 1024, View.ld (Val := Elt Ideal) (e' := .bf16) (iblk m c 0 t) (Rect.unit ![0, 4864] ![512, 1024] inb_S512x5888_S512x1024_0_4864)
      (ix2 ⟨128 * k.val + i.val, by omega⟩ l) = proj m c (rowAt (batchOf t) (chunkNo (partOf t) k) i) ⟨4864 + l.val, by omega⟩ := fun l =>
    (View.ld_unit_apply_of _ _ _ _ _ (ix2 ⟨128 * k.val + i.val, by omega⟩ ⟨4864 + l.val, by omega⟩) fun a => by
      match a with
      | ⟨0, _⟩ => exact (Nat.zero_add _).symm
      | ⟨1, _⟩ => rfl).trans (in_rows m c t k i _)
  have ha : ∀ a : Fin 512, rowsOf (attention (iblk m c 0 t) (shapeCast S128x256 (iblk m c 1 t) shapeCasts_S128x256_S128x256) (iblk m c 3 t) (iblk m c 5 t)
        (k0_pay2 (F := Ideal) (grid0.coords t) (iblk m c 4 t))) (ix2 ⟨128 * k.val + i.val, by omega⟩ a)
      = att (proj m c) (fun h => m ((c : Thread nD τ).loc main_arg2) (ix1 h)) (batchOf t) (chunkNo (partOf t) k) i a :=
    rows_at (proj m c) (batchOf t) (partOf t) _ _ (in_rows m c t) _ (in_before m c t) _ (in_bias m c t) _ (in_sink m c t) _ (in_masks m c t) k i
  have hr : ∀ a : Fin 1024, tilesOf (head (iblk m c 0 t) (iblk m c 6 t) (iblk m c 7 t) (iblk m c 8 t) (iblk m c 9 t) (iblk m c 10 t) st)
      (ix2 ⟨128 * k.val + i.val, by omega⟩ a) = gatedRet (proj m c) (fun k => m ((c : Thread nD τ).loc main_arg3) (ix1 k)) (batchOf t) (chunkNo (partOf t) k) i a :=
    tiles_at (proj m c) (batchOf t) (partOf t) _ (in_rows m c t) _ (in_decayIn m c t) _ (in_decayQ m c t) _ (in_decayK m c t) _ (in_decayC m c t) st hst _ _
      (in_gain m c t) k i
  rw [merge_at, mixer]
  simp only [hga, hgr, ha, hr, blk2, blk11, blk12, blk13, merged]
  congr 1
  exact congrArg (fun r => m ((c : Thread nD τ).loc main_arg1) (ix2 r l)) (Fin.ext (by dsimp only; omega))

/-- The tile of every step. -/
theorem out_at (t : Fin cfg0.N) (k : Fin 4) (i : Fin 128) (l : Fin 1024) :
    (outsAt0 m c t.val t.isLt).1 (ix2 ⟨128 * k.val + i.val, by omega⟩ l)
      = mixer (proj m c) (fun r k => m ((c : Thread nD τ).loc main_arg1) (ix2 r k)) (fun h => m ((c : Thread nD τ).loc main_arg2) (ix1 h))
        (fun k => m ((c : Thread nD τ).loc main_arg3) (ix1 k)) (fun a k => m ((c : Thread nD τ).loc main_arg4) (ix2 a k))
        (fun a k => m ((c : Thread nD τ).loc main_arg5) (ix2 a k)) (fun a k => m ((c : Thread nD τ).loc main_arg6) (ix2 a k))
        (batchOf t) (chunkNo (partOf t) k) i l := by
  by_cases h0 : t.val % 4 = 0
  · rw [tile_A m c t h0]
    refine tile_at m c t _ (fun h d v => ?_) k i l
    rw [nothing_at]
    change 0 = stateAt (proj m c) _ h (4 * (t.val % 4)) d v
    rw [h0]
    rfl
  · rw [tile_B m c t h0]
    exact tile_at m c t _ (entering m c t h0) k i l

/-- The mixer at equal places. -/
theorem mixer_congr (P : Fin 32768 → Fin 5888 → EReal) (x : Fin 32768 → Fin 1024 → EReal) (sk : Fin 8 → EReal) (g : Fin 1024 → EReal)
    (wa : Fin 512 → Fin 1024 → EReal) (wr wo : Fin 1024 → Fin 1024 → EReal) {b b' n n' : Fin 16} {i i' : Fin 128} (hb : b = b') (hn : n = n')
    (hi : i = i') (l : Fin 1024) : mixer P x sk g wa wr wo b n i l = mixer P x sk g wa wr wo b' n' i' l := by
  rw [hb, hn, hi]

/-- The array after the run. -/
theorem final : (dats m 0 c).arrAt 14 cfg0.N
    = mixed (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 14 _ (by decide +kernel) fun t _ y => ?_
  blk_simp
  rw [after0_14]
  idx_vars y
  obtain ⟨k, i, rfl⟩ : ∃ (k : Fin 4) (i : Fin 128), y0 = ⟨128 * k.val + i.val, by omega⟩ :=
    ⟨⟨y0.val / 128, by omega⟩, ⟨y0.val % 128, by omega⟩, Fin.ext (by dsimp only; omega)⟩
  rw [out_at, out_emb]
  have eb : (⟨(t.val * 512 + (128 * k.val + i.val)) / 2048, by have h : t.val < 64 := t.isLt; omega⟩ : Fin 16) = batchOf t := Fin.ext (by dsimp only; omega)
  have en : (⟨(t.val * 512 + (128 * k.val + i.val)) % 2048 / 128, by omega⟩ : Fin 16) = chunkNo (partOf t) k := Fin.ext (by dsimp only; omega)
  have ei : (⟨(t.val * 512 + (128 * k.val + i.val)) % 128, by omega⟩ : Fin 128) = i := Fin.ext (by dsimp only; omega)
  exact (mixer_congr _ _ _ _ _ _ _ eb en ei _).symm

end Cert.Proof.Mix
end
-- ==== Proof.MixRefTerms.lean ====
/-
  The reference's own text, named part by part.
-/
module

public import proofs.«01_k».proof.Proof.Gen.ReferenceIdeal.Step
public import Idealize.ShloMosaic.Lib.Pipeline.ValueKit

@[expose] public section

set_option maxRecDepth 16384

noncomputable section

namespace Cert.Proof.Mix.Ref

open Idealize.ShloMosaic Cert.ReferenceIdeal Cert.ReferenceIdeal.Gen Cert.ReferenceIdeal.Facts

/-- The projection, a batch after another. -/
def projection (p : FVec Ideal S32768x5888 .bf16) : FVec Ideal S16x2048x5888 .f32 :=
  shapeCast S16x2048x5888 (extf .f32 p bitsLt_bf16_f32) shapeCasts_S32768x5888_S16x2048x5888

/-- Each chunk's keys with the chunk's before it: zeros before the batch. -/
def keyBand (p : FVec Ideal S32768x5888 .bf16) : FVec Ideal S16x16x256x2x64 .f32 :=
  concatenate S16x16x256x2x64 2 [⟨S16x16x128x2x64, (shapeCast S16x16x128x2x64 (extractStridedSlice S16x2048x2x64 ![0, 0, 0, 0] (pad S16x2176x2x64 ![0, 128, 0, 0] ![0, 0, 0, 0] ![0, 0, 0, 0] (shapeCast S16x2048x2x64 (extractStridedSlice S16x2048x128 ![0, 0, 512] (projection p) slices_S16x2048x5888_S16x2048x128_0_0_512) shapeCasts_S16x2048x128_S16x2048x2x64) (sitofp (F := Ideal) .f32 (constantI S_ 32 0#32)) pads_S16x2048x2x64_S16x2176x2x64_000_12800_000_000 h_S_) slices_S16x2176x2x64_S16x2048x2x64_0_0_0_0) shapeCasts_S16x2048x2x64_S16x16x128x2x64)⟩, ⟨S16x16x128x2x64, (shapeCast S16x16x128x2x64 (extractStridedSlice S16x2048x2x64 ![0, 128, 0, 0] (pad S16x2176x2x64 ![0, 128, 0, 0] ![0, 0, 0, 0] ![0, 0, 0, 0] (shapeCast S16x2048x2x64 (extractStridedSlice S16x2048x128 ![0, 0, 512] (projection p) slices_S16x2048x5888_S16x2048x128_0_0_512) shapeCasts_S16x2048x128_S16x2048x2x64) (sitofp (F := Ideal) .f32 (constantI S_ 32 0#32)) pads_S16x2048x2x64_S16x2176x2x64_000_12800_000_000 h_S_) slices_S16x2176x2x64_S16x2048x2x64_0_128_0_0) shapeCasts_S16x2048x2x64_S16x16x128x2x64)⟩] concatenates_S16x16x128x2x64_S16x16x128x2x64_S16x16x256x2x64_d2

/-- Each chunk's values with the chunk's before it. -/
def valueBand (p : FVec Ideal S32768x5888 .bf16) : FVec Ideal S16x16x256x2x64 .f32 :=
  concatenate S16x16x256x2x64 2 [⟨S16x16x128x2x64, (shapeCast S16x16x128x2x64 (extractStridedSlice S16x2048x2x64 ![0, 0, 0, 0] (pad S16x2176x2x64 ![0, 128, 0, 0] ![0, 0, 0, 0] ![0, 0, 0, 0] (shapeCast S16x2048x2x64 (extractStridedSlice S16x2048x128 ![0, 0, 640] (projection p) slices_S16x2048x5888_S16x2048x128_0_0_640) shapeCasts_S16x2048x128_S16x2048x2x64) (sitofp (F := Ideal) .f32 (constantI S_ 32 0#32)) pads_S16x2048x2x64_S16x2176x2x64_000_12800_000_000 h_S_) slices_S16x2176x2x64_S16x2048x2x64_0_0_0_0) shapeCasts_S16x2048x2x64_S16x16x128x2x64)⟩, ⟨S16x16x128x2x64, (shapeCast S16x16x128x2x64 (extractStridedSlice S16x2048x2x64 ![0, 128, 0, 0] (pad S16x2176x2x64 ![0, 128, 0, 0] ![0, 0, 0, 0] ![0, 0, 0, 0] (shapeCast S16x2048x2x64 (extractStridedSlice S16x2048x128 ![0, 0, 640] (projection p) slices_S16x2048x5888_S16x2048x128_0_0_640) shapeCasts_S16x2048x128_S16x2048x2x64) (sitofp (F := Ideal) .f32 (constantI S_ 32 0#32)) pads_S16x2048x2x64_S16x2176x2x64_000_12800_000_000 h_S_) slices_S16x2176x2x64_S16x2048x2x64_0_128_0_0) shapeCasts_S16x2048x2x64_S16x16x128x2x64)⟩] concatenates_S16x16x128x2x64_S16x16x128x2x64_S16x16x256x2x64_d2

/-- The distance of a query and a key, as words. -/
def distance : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- Which keys a query of a chunk sees. -/
def inWindow : IVec S16x128x256 1 :=
  andi (broadcastInDim S16x128x256 ![0, 1, 2] bcast_S1x128x256_S16x128x256_0_1_2 (broadcastInDim S1x128x256 ![1, 2] bcast_S128x256_S1x128x256_1_2 (andi (cmpi .sge distance (broadcastInDim S128x256 ![] bcast_S_S128x256 (constantI S_ 32 0#32))) (cmpi .slt distance (broadcastInDim S128x256 ![] bcast_S_S128x256 (constantI S_ 32 128#32)))))) (broadcastInDim S16x128x256 ![0, 1, 2] bcast_S16x1x256_S16x128x256_0_1_2 (cmpi .sge (addi (broadcastInDim S16x1x256 ![0, 1, 2] bcast_S16x1x1_S16x1x256_0_1_2 (subi (muli (broadcastInDim S16x1x1 ![0] bcast_S16_S16x1x1_0 (iotaInDim S16 32 0)) (broadcastInDim S16x1x1 ![] bcast_S_S16x1x1 (constantI S_ 32 128#32))) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (broadcastInDim S1x256 ![1] bcast_S256_S1x256_1 (iotaInDim S256 32 0))))) (broadcastInDim S16x1x256 ![] bcast_S_S16x1x256 (constantI S_ 32 0#32))))

/-- The slopes of the eight heads. -/
def slopes : FVec Ideal S8 .f32 :=
  Host.exp (mulf (broadcastInDim S8 ![] bcast_S_S8 (constant (F := Ideal) S_ .f32 0x3F317218#32)) (Host.divf (mulf (broadcastInDim S8 ![] bcast_S_S8 (constant (F := Ideal) S_ .f32 0xC1000000#32)) (addf (sitofp (F := Ideal) .f32 (iotaInDim S8 32 0)) (broadcastInDim S8 ![] bcast_S_S8 (constant (F := Ideal) S_ .f32 0x3F800000#32)))) (broadcastInDim S8 ![] bcast_S_S8 (constant (F := Ideal) S_ .f32 0x41000000#32))))

/-- The slopes times the distances. -/
def penalty : FVec Ideal S2x4x128x256 .f32 :=
  mulf (broadcastInDim S2x4x128x256 ![0, 1, 2, 3] bcast_S2x4x1x1_S2x4x128x256_0_1_2_3 (broadcastInDim S2x4x1x1 ![0, 1] bcast_S2x4_S2x4x1x1_0_1 (shapeCast S2x4 slopes shapeCasts_S8_S2x4))) (broadcastInDim S2x4x128x256 ![0, 1, 2, 3] bcast_S1x1x128x256_S2x4x128x256_0_1_2_3 (broadcastInDim S1x1x128x256 ![2, 3] bcast_S128x256_S1x1x128x256_2_3 (sitofp (F := Ideal) .f32 distance)))

/-- The queries over eight. -/
def scaledQueries (p : FVec Ideal S32768x5888 .bf16) : FVec Ideal S16x16x128x2x4x64 .f32 :=
  mulf (shapeCast S16x16x128x2x4x64 (extractStridedSlice S16x2048x512 ![0, 0, 0] (projection p) slices_S16x2048x5888_S16x2048x512_0_0_0) shapeCasts_S16x2048x512_S16x16x128x2x4x64) (broadcastInDim S16x16x128x2x4x64 ![] bcast_S_S16x16x128x2x4x64 (constant (F := Ideal) S_ .f32 0x3E000000#32))

/-- The products of keys and queries. -/
def products (p : FVec Ideal S32768x5888 .bf16) : FVec Ideal S16x16x2x256x128x4 .f32 :=
  Host.dotGeneral dot_S16x16x256x2x64_S16x16x128x2x4x64_S16x16x2x256x128x4_4_5_2_24_013_013 none (keyBand p) (scaledQueries p)

/-- The scores: minus infinity where a key is not seen. -/
def maskedScores (p : FVec Ideal S32768x5888 .bf16) : FVec Ideal S16x16x2x4x128x256 .f32 :=
  select (broadcastInDim S16x16x2x4x128x256 ![0, 1, 2, 3, 4, 5] bcast_S1x16x1x1x128x256_S16x16x2x4x128x256_0_1_2_3_4_5 (broadcastInDim S1x16x1x1x128x256 ![1, 4, 5] bcast_S16x128x256_S1x16x1x1x128x256_1_4_5 inWindow)) (subf (transpose S16x16x2x4x128x256 [0, 1, 2, 5, 4, 3] (products p) transposes_S16x16x2x256x128x4_S16x16x2x4x128x256_0_1_2_5_4_3) (broadcastInDim S16x16x2x4x128x256 ![0, 1, 2, 3, 4, 5] bcast_S1x1x2x4x128x256_S16x16x2x4x128x256_0_1_2_3_4_5 (broadcastInDim S1x1x2x4x128x256 ![2, 3, 4, 5] bcast_S2x4x128x256_S1x1x2x4x128x256_2_3_4_5 penalty))) (broadcastInDim S16x16x2x4x128x256 ![] bcast_S_S16x16x2x4x128x256 (id (constant (F := Ideal) S_ .f32 0xFF800000#32)))

/-- The scores and the sink behind them. -/
def withSink (p : FVec Ideal S32768x5888 .bf16) (sk : FVec Ideal S8 .f32) : FVec Ideal S16x16x2x4x128x257 .f32 :=
  concatenate S16x16x2x4x128x257 5 [⟨S16x16x2x4x128x256, (maskedScores p)⟩, ⟨S16x16x2x4x128x1, (broadcastInDim S16x16x2x4x128x1 ![0, 1, 2, 3, 4, 5] bcast_S1x1x2x4x1x1_S16x16x2x4x128x1_0_1_2_3_4_5 (broadcastInDim S1x1x2x4x1x1 ![2, 3] bcast_S2x4_S1x1x2x4x1x1_2_3 (shapeCast S2x4 sk shapeCasts_S8_S2x4)))⟩] concatenates_S16x16x2x4x128x256_S16x16x2x4x128x1_S16x16x2x4x128x257_d5

/-- A row's greatest. -/
def greatest (p : FVec Ideal S32768x5888 .bf16) (sk : FVec Ideal S8 .f32) : FVec Ideal S16x16x2x4x128 .f32 :=
  maximumf (broadcastInDim S16x16x2x4x128 ![] bcast_S_S16x16x2x4x128 (constant (F := Ideal) S_ .f32 0xFF800000#32)) (Host.reduce FloatOps.maximumf (withSink p sk) (constant (F := Ideal) S_ .f32 0xFF800000#32) reducesTo_S16x16x2x4x128x257_S16x16x2x4x128_d5 h_S_)

/-- The exponentials. -/
def exponentials (p : FVec Ideal S32768x5888 .bf16) (sk : FVec Ideal S8 .f32) : FVec Ideal S16x16x2x4x128x257 .f32 :=
  Host.exp (subf (withSink p sk) (broadcastInDim S16x16x2x4x128x257 ![0, 1, 2, 3, 4, 5] bcast_S16x16x2x4x128x1_S16x16x2x4x128x257_0_1_2_3_4_5 (broadcastInDim S16x16x2x4x128x1 ![0, 1, 2, 3, 4] bcast_S16x16x2x4x128_S16x16x2x4x128x1_0_1_2_3_4 (greatest p sk))))

/-- The exponentials over their sum. -/
def probabilities (p : FVec Ideal S32768x5888 .bf16) (sk : FVec Ideal S8 .f32) : FVec Ideal S16x16x2x4x128x257 .f32 :=
  Host.divf (exponentials p sk) (broadcastInDim S16x16x2x4x128x257 ![0, 1, 2, 3, 4, 5] bcast_S16x16x2x4x128x1_S16x16x2x4x128x257_0_1_2_3_4_5 (broadcastInDim S16x16x2x4x128x1 ![0, 1, 2, 3, 4] bcast_S16x16x2x4x128_S16x16x2x4x128x1_0_1_2_3_4 (Host.reduceAdd (exponentials p sk) (constant (F := Ideal) S_ .f32 0x00000000#32) reducesTo_S16x16x2x4x128x257_S16x16x2x4x128_d5 h_S_)))

/-- The values weighted. -/
def weighted (p : FVec Ideal S32768x5888 .bf16) (sk : FVec Ideal S8 .f32) : FVec Ideal S16x16x2x64x4x128 .f32 :=
  Host.dotGeneral dot_S16x16x256x2x64_S16x16x2x4x128x256_S16x16x2x64x4x128_2_5_4_34_013_012 none (valueBand p) (extractStridedSlice S16x16x2x4x128x256 ![0, 0, 0, 0, 0, 0] (probabilities p sk) slices_S16x16x2x4x128x257_S16x16x2x4x128x256_0_0_0_0_0_0)

/-- The attention. -/
def attRows (p : FVec Ideal S32768x5888 .bf16) (sk : FVec Ideal S8 .f32) : FVec Ideal S16x2048x512 .f32 :=
  shapeCast S16x2048x512 (transpose S16x16x128x2x4x64 [0, 1, 5, 2, 4, 3] (weighted p sk) transposes_S16x16x2x64x4x128_S16x16x128x2x4x64_0_1_5_2_4_3) shapeCasts_S16x16x128x2x4x64_S16x2048x512

/-- The retention, its heads apart. -/
def retRows (o : FVec Ideal S16x16x128x4x256 .f32) : FVec Ideal S16x2048x4x256 .f32 :=
  shapeCast S16x2048x4x256 (transpose S16x16x128x4x256 [1, 0, 2, 3, 4] (o) transposes_S16x16x128x4x256_S16x16x128x4x256_1_0_2_3_4) shapeCasts_S16x16x128x4x256_S16x2048x4x256

/-- A head's mean. -/
def retMean (o : FVec Ideal S16x16x128x4x256 .f32) : FVec Ideal S16x2048x4x1 .f32 :=
  Host.divf (broadcastInDim S16x2048x4x1 ![0, 1, 2] bcast_S16x2048x4_S16x2048x4x1_0_1_2 (Host.reduceAdd (retRows o) (constant (F := Ideal) S_ .f32 0x00000000#32) reducesTo_S16x2048x4x256_S16x2048x4_d3 h_S_)) (broadcastInDim S16x2048x4x1 ![] bcast_S_S16x2048x4x1 (constant (F := Ideal) S_ .f32 0x43800000#32))

/-- A head less its mean. -/
def retCentre (o : FVec Ideal S16x16x128x4x256 .f32) : FVec Ideal S16x2048x4x256 .f32 :=
  subf (retRows o) (broadcastInDim S16x2048x4x256 ![0, 1, 2, 3] bcast_S16x2048x4x1_S16x2048x4x256_0_1_2_3 (retMean o))

/-- A head at unit variance. -/
def retNormed (o : FVec Ideal S16x16x128x4x256 .f32) : FVec Ideal S16x2048x4x256 .f32 :=
  mulf (retCentre o) (broadcastInDim S16x2048x4x256 ![0, 1, 2, 3] bcast_S16x2048x4x1_S16x2048x4x256_0_1_2_3 (Host.rsqrt (addf (Host.divf (broadcastInDim S16x2048x4x1 ![0, 1, 2] bcast_S16x2048x4_S16x2048x4x1_0_1_2 (Host.reduceAdd (mulf (retCentre o) (retCentre o)) (constant (F := Ideal) S_ .f32 0x00000000#32) reducesTo_S16x2048x4x256_S16x2048x4_d3 h_S_)) (broadcastInDim S16x2048x4x1 ![] bcast_S_S16x2048x4x1 (constant (F := Ideal) S_ .f32 0x43800000#32))) (broadcastInDim S16x2048x4x1 ![] bcast_S_S16x2048x4x1 (constant (F := Ideal) S_ .f32 0x358637BD#32)))))

/-- The retention with its gain and gate. -/
def retGated (p : FVec Ideal S32768x5888 .bf16) (g : FVec Ideal S1024 .f32) (o : FVec Ideal S16x16x128x4x256 .f32) : FVec Ideal S16x2048x1024 .f32 :=
  mulf (mulf (shapeCast S16x2048x1024 (retNormed o) shapeCasts_S16x2048x4x256_S16x2048x1024) (broadcastInDim S16x2048x1024 ![0, 1, 2] bcast_S1x1x1024_S16x2048x1024_0_1_2 (broadcastInDim S1x1x1024 ![2] bcast_S1024_S1x1x1024_2 g))) (mulf (extractStridedSlice S16x2048x1024 ![0, 0, 2816] (projection p) slices_S16x2048x5888_S16x2048x1024_0_0_2816) (Host.divf (broadcastInDim S16x2048x1024 ![] bcast_S_S16x2048x1024 (constant (F := Ideal) S_ .f32 0x3F800000#32)) (addf (broadcastInDim S16x2048x1024 ![] bcast_S_S16x2048x1024 (constant (F := Ideal) S_ .f32 0x3F800000#32)) (Host.exp (Host.negf (extractStridedSlice S16x2048x1024 ![0, 0, 2816] (projection p) slices_S16x2048x5888_S16x2048x1024_0_0_2816))))))

/-- The gate of the attention. -/
def gateA (p : FVec Ideal S32768x5888 .bf16) : FVec Ideal S16x2048x1024 .f32 :=
  Host.divf (broadcastInDim S16x2048x1024 ![] bcast_S_S16x2048x1024 (constant (F := Ideal) S_ .f32 0x3F800000#32)) (addf (broadcastInDim S16x2048x1024 ![] bcast_S_S16x2048x1024 (constant (F := Ideal) S_ .f32 0x3F800000#32)) (Host.exp (Host.negf (extractStridedSlice S16x2048x1024 ![0, 0, 3840] (projection p) slices_S16x2048x5888_S16x2048x1024_0_0_3840))))

/-- The gate of the retention. -/
def gateR (p : FVec Ideal S32768x5888 .bf16) : FVec Ideal S16x2048x1024 .f32 :=
  Host.divf (broadcastInDim S16x2048x1024 ![] bcast_S_S16x2048x1024 (constant (F := Ideal) S_ .f32 0x3F800000#32)) (addf (broadcastInDim S16x2048x1024 ![] bcast_S_S16x2048x1024 (constant (F := Ideal) S_ .f32 0x3F800000#32)) (Host.exp (Host.negf (extractStridedSlice S16x2048x1024 ![0, 0, 4864] (projection p) slices_S16x2048x5888_S16x2048x1024_0_0_4864))))

/-- The two gated products. -/
def mergedRows (p : FVec Ideal S32768x5888 .bf16) (sk : FVec Ideal S8 .f32) (g : FVec Ideal S1024 .f32) (wa : FVec Ideal S512x1024 .f32) (wr : FVec Ideal S1024x1024 .f32) (o : FVec Ideal S16x16x128x4x256 .f32) : FVec Ideal S16x2048x1024 .f32 :=
  addf (mulf (gateA p) (Host.dotGeneral dot_S16x2048x512_S512x1024_S16x2048x1024_2_0_01_1_n_n none (attRows p sk) wa)) (mulf (gateR p) (Host.dotGeneral dot_S16x2048x1024_S1024x1024_S16x2048x1024_2_0_01_1_n_n none (retGated p g o) wr))

/-- The rows with their residual. -/
def outRows (p : FVec Ideal S32768x5888 .bf16) (x : FVec Ideal S32768x1024 .f32) (sk : FVec Ideal S8 .f32) (g : FVec Ideal S1024 .f32) (wa : FVec Ideal S512x1024 .f32) (wr : FVec Ideal S1024x1024 .f32) (wo : FVec Ideal S1024x1024 .f32) (o : FVec Ideal S16x16x128x4x256 .f32) : FVec Ideal S16x2048x1024 .f32 :=
  addf (shapeCast S16x2048x1024 x shapeCasts_S32768x1024_S16x2048x1024) (Host.dotGeneral dot_S16x2048x1024_S1024x1024_S16x2048x1024_2_0_01_1_n_n none (mergedRows p sk g wa wr o) wo)

/-- What the reference computes after its loop, of the loop's result. -/
theorem result_eq (s : Step.State Ideal) (p : FVec Ideal S32768x5888 .bf16) (x : FVec Ideal S32768x1024 .f32) (sk : FVec Ideal S8 .f32)
    (g : FVec Ideal S1024 .f32) (wa : FVec Ideal S512x1024 .f32) (wr wo : FVec Ideal S1024x1024 .f32) :
    Step.R_main_v219 (F := Ideal) s p x sk g wa wr wo = shapeCast S32768x1024 (outRows p x sk g wa wr wo s.main_v71_9) shapeCasts_S16x2048x1024_S32768x1024 := rfl

end Cert.Proof.Mix.Ref

end
-- ==== Proof.MixRefA.lean ====
/-
  The reference's attention read at an index: the keys and values a chunk sees, and the masked scores.
-/
module

public import proofs.«01_k».proof.Proof.MixRefTerms
public import proofs.«01_k».proof.Proof.MixFns

@[expose] public section

set_option maxRecDepth 16384

noncomputable section

namespace Cert.Proof.Mix.Ref

open Idealize.ShloMosaic Cert.ReferenceIdeal Cert.ReferenceIdeal.Gen Cert.ReferenceIdeal.Facts

/-- An array of two axes as a function of two positions. -/
abbrev fn2 {a b : ℕ} {φ : FTy} (x : FVec Ideal ⟨2, ![a, b]⟩ φ) : Fin a → Fin b → EReal := fun i j => x (ix2 i j)

section last
variable {n0 n1 n2 n3 n4 n5 : ℕ} (h : (⟨6, ![n0, n1, n2, n3, n4, n5]⟩ : Shape).ReducesTo [5] ⟨5, ![n0, n1, n2, n3, n4]⟩)

/-- The indices that lose their last coordinate and become a given index. -/
theorem last_fiber (j0 : Fin n0) (j1 : Fin n1) (j2 : Fin n2) (j3 : Fin n3) (j4 : Fin n4)
    (i : (⟨6, ![n0, n1, n2, n3, n4, n5]⟩ : Shape).Idx) :
    h.drop i = ix5 j0 j1 j2 j3 j4 ↔ ∃ k : Fin n5, ix6 j0 j1 j2 j3 j4 k = i := by
  constructor
  · intro e
    refine ⟨i 5, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- A sum over the last of six axes at an index. -/
theorem last_sum (x : (⟨6, ![n0, n1, n2, n3, n4, n5]⟩ : Shape).Idx → EReal) (init : EReal) (j0 : Fin n0) (j1 : Fin n1) (j2 : Fin n2)
    (j3 : Fin n3) (j4 : Fin n4) :
    Ideal.hostReduceAdd h x init (ix5 j0 j1 j2 j3 j4) = init + ∑ k : Fin n5, x (ix6 j0 j1 j2 j3 j4 k) :=
  congrArg (init + ·) (Finset.sum_filter_eq_sum_of_fiber _ (fun k : Fin n5 => ix6 j0 j1 j2 j3 j4 k)
    (fun _ _ e => congrFun e 5) (last_fiber h j0 j1 j2 j3 j4) x)

/-- A maximum over the last of six axes at an index. -/
theorem last_max (x : FVec Ideal ⟨6, ![n0, n1, n2, n3, n4, n5]⟩ .f32) (init : FVec Ideal S_ .f32) (hs) (j0 : Fin n0) (j1 : Fin n1) (j2 : Fin n2)
    (j3 : Fin n3) (j4 : Fin n4) :
    Host.reduce FloatOps.maximumf x init h hs (ix5 j0 j1 j2 j3 j4)
      = (Finset.univ : Finset (Fin n5)).fold (FloatOps.maximumf (F := Ideal) (φ := .f32)) (init (Shape.Idx.first hs))
        (fun k => x (ix6 j0 j1 j2 j3 j4 k)) := by
  rw [Host.reduce_eq_fold]
  exact Finset.fold_filter_eq_fold_of_fiber (FloatOps.maximumf (F := Ideal) (φ := .f32)) _ (fun k : Fin n5 => ix6 j0 j1 j2 j3 j4 k)
    (fun _ _ e => congrFun e 5) (last_fiber h j0 j1 j2 j3 j4) _ _

end last

variable (p : FVec Ideal S32768x5888 .bf16) (sk : FVec Ideal S8 .f32)

/-- The word zero is the number zero. -/
theorem sitofp_zero : FloatOps.sitofp (F := Ideal) .f32 (0#32 : BitVec 32) = 0 := by
  change (((0#32 : BitVec 32).toInt : ℝ) : EReal) = 0
  simp

/-- The padded rows, previous and own chunk, are the rows a chunk sees. -/
theorem band_at (b n : Fin 16) (j : Fin 256) (c c' : Fin 5888) (e : c = c') (x : EReal)
    (hx : x = if h : j.val < 128 then
      if h_1 : 128 ≤ n.val * 128 + j.val ∧ n.val * 128 + j.val - 128 < 2048 then
        p (ix2 ⟨b.val * 2048 + (n.val * 128 + j.val - 128), by omega⟩ c)
      else FloatOps.sitofp (F := Ideal) FTy.f32 0#32
    else
      if h_1 : n.val * 128 + (j.val - 128) < 2048 then
        p (ix2 ⟨b.val * 2048 + (n.val * 128 + (j.val - 128)), by omega⟩ c)
      else FloatOps.sitofp (F := Ideal) FTy.f32 0#32) : x = band (fn2 p) b n j c' := by
  subst e
  rw [hx, band, sitofp_zero]
  by_cases h : j.val < 128
  · rw [dif_pos h]
    by_cases h1 : 128 ≤ n.val * 128 + j.val
    · rw [dif_pos ⟨h1, by omega⟩, dif_pos h1]
    · rw [dif_neg (fun q => h1 q.1), dif_neg h1]
  · rw [dif_neg h, dif_pos (by omega), dif_pos (by omega)]
    exact congrArg (fun r => p (ix2 r c)) (Fin.ext (by dsimp only; omega))

/-- The band of keys at an index. -/
theorem keyBand_at (b n : Fin 16) (j : Fin 256) (k : Fin 2) (d : Fin 64) :
    keyBand p (ix5 b n j k d) = band (fn2 p) b n j ⟨512 + (k.val * 64 + d.val), by omega⟩ := by
  refine band_at p b n j _ _ rfl _ ?_
  pointwise [keyBand, projection]

/-- The band of values at an index. -/
theorem valueBand_at (b n : Fin 16) (j : Fin 256) (k : Fin 2) (d : Fin 64) :
    valueBand p (ix5 b n j k d) = band (fn2 p) b n j ⟨640 + (k.val * 64 + d.val), by omega⟩ := by
  refine band_at p b n j _ _ rfl _ ?_
  pointwise [valueBand, projection]

/-- A key of a chunk lies in the batch when it is not before its first chunk. -/
theorem inBatch : ∀ (n : Fin 16) (j : Fin 256), IntOp.cmpi .sge (IntOp.addi (IntOp.subi (IntOp.muli (BitVec.ofNat 32 n.val) 128#32)
    128#32) (BitVec.ofNat 32 j.val)) 0#32 = if n.val * 128 + j.val < 128 then 0#1 else 1#1 := by
  decide +kernel

/-- Whether a key is seen. -/
theorem inWindow_at (n : Fin 16) (i : Fin 128) (j : Fin 256) :
    inWindow (ix3 n i j) = if n.val * 128 + j.val < 128 then 0#1 else near i j := by
  have e : inWindow (ix3 n i j) = IntOp.andi (near i j) (IntOp.cmpi .sge (IntOp.addi (IntOp.subi (IntOp.muli (BitVec.ofNat 32 n.val)
    128#32) 128#32) (BitVec.ofNat 32 j.val)) 0#32) := by pointwise [inWindow, distance, near]
  rw [e, inBatch]
  split
  · exact BitVec.and_zero
  · exact BitVec.and_allOnes (w := 1)

/-- The distance's penalty. -/
theorem penalty_at (k : Fin 2) (g : Fin 4) (i : Fin 128) (j : Fin 256) :
    penalty (ix4 k g i j) = penaltyOf ⟨k.val * 4 + g.val, by omega⟩ i j := by
  pointwise [penalty, distance, slopes, penaltyOf, slope]

/-- The literal of masked scores is minus infinity. -/
theorem neg_inf : Ideal.ofBits .f32 0xFF800000#32 = ⊥ := by
  simp [Ideal.ofBits, Ideal.ieee]

/-- The masked scores at an index. -/
theorem maskedScores_at (b n : Fin 16) (k : Fin 2) (g : Fin 4) (i : Fin 128) (j : Fin 256) :
    maskedScores p (ix6 b n k g i j) = score (fn2 p) b n ⟨k.val * 4 + g.val, by omega⟩ i j := by
  have e : maskedScores p (ix6 b n k g i j) = Scalar.select (inWindow (ix3 n i j))
      ((∑ x : Fin 64, keyBand p (ix5 b n j k x) * (p (ix2 (rowAt b n i) ⟨k.val * 256 + g.val * 64 + x.val, by omega⟩) * eighth))
        - penalty (ix4 k g i j)) (Ideal.ofBits .f32 0xFF800000#32) := by
    pointwise [maskedScores, products, scaledQueries, projection]
    rfl
  rw [e, inWindow_at, penalty_at, neg_inf, score]
  split
  · rfl
  · congr 2
    rw [← sum_mul_of_nonneg _ _ (by rw [eighth_real]; exact EReal.coe_nonneg.mpr (by norm_num))
      (by rw [eighth_real]; exact EReal.coe_ne_top _)]
    refine Finset.sum_congr rfl fun d _ => ?_
    rw [keyBand_at, mul_comm, mul_assoc, mul_comm eighth, ← mul_assoc]
    congr 2
    · exact congrArg (fun c => p (ix2 _ c)) (Fin.ext (by dsimp only; omega))
    · exact congrArg (band _ b n j) (Fin.ext (by dsimp only; omega))

end Cert.Proof.Mix.Ref

end
-- ==== Proof.MixRetention.lean ====
/-
  The reference's retention, chunk after chunk.
-/
module

public import proofs.«01_k».proof.Proof.MixRefA
import Idealize.ShloMosaic.Lib.WordCmp

@[expose] public section

set_option maxRecDepth 16384

noncomputable section

namespace Cert.Proof.Mix.Ref

open Idealize.ShloMosaic Cert.ReferenceIdeal Cert.ReferenceIdeal.Gen Cert.ReferenceIdeal.Facts

open Cert.ReferenceIdeal.Step Idealize.ShloMosaic.WordCmp

/-- The decay between two positions. -/
theorem decayIn_at (h : Fin 4) (i j : Fin 128) : K_main_v36 (F := Ideal) (ix3 h i j) = decayIn h i j := by
  pointwise [Step.K_main_v36, Step.K_main_call0_v1, Step.K_main_v27, Step.K_main_v25, Step.K_main_v23, Step.K_main_v21, Step.K_main_v20, Step.K_main_v24, Step.K_main_v22, Step.K_main_v26, Step.K_main_cst_2, Step.K_main_v35, Step.K_main_v34, Step.K_main_v32, Step.K_main_v28, Step.K_main_v19, Step.K_main_v18, Step.K_main_v17, Step.K_main_cst_1, Step.K_main_v16, Step.K_main_v15, Step.K_main_v14, Step.K_main_cst_0, Step.K_main_v13, Step.K_main_v12, Step.K_main_cst, Step.K_main_v11, Step.K_main_v33, Step.K_main_v31, Step.K_main_v30, Step.K_main_v29, Step.K_main_cst_3, Step.K_main_call0_v2, Step.K_main_call0_v0, Step.K_main_cst_4, decayIn, logDecay, id_eq]

/-- The decay of the entering state. -/
theorem decayQ_at (h : Fin 4) (i : Fin 128) : K_main_v46 (F := Ideal) (ix4 0 i h 0) = decayQ h i := by
  pointwise [Step.K_main_v46, Step.K_main_v45, Step.K_main_v44, Step.K_main_v43, Step.K_main_v41, Step.K_main_v37, Step.K_main_v19, Step.K_main_v18, Step.K_main_v17, Step.K_main_cst_1, Step.K_main_v16, Step.K_main_v15, Step.K_main_v14, Step.K_main_cst_0, Step.K_main_v13, Step.K_main_v12, Step.K_main_cst, Step.K_main_v11, Step.K_main_v42, Step.K_main_v40, Step.K_main_v39, Step.K_main_v20, Step.K_main_v38, Step.K_main_cst_5, decayQ, logDecay]

/-- The decay of a position in the leaving state. -/
theorem decayK_at (h : Fin 4) (i : Fin 128) : K_main_v56 (F := Ideal) (ix4 0 i h 0) = decayK h i := by
  pointwise [Step.K_main_v56, Step.K_main_v55, Step.K_main_v54, Step.K_main_v53, Step.K_main_v51, Step.K_main_v47, Step.K_main_v19, Step.K_main_v18, Step.K_main_v17, Step.K_main_cst_1, Step.K_main_v16, Step.K_main_v15, Step.K_main_v14, Step.K_main_cst_0, Step.K_main_v13, Step.K_main_v12, Step.K_main_cst, Step.K_main_v11, Step.K_main_v52, Step.K_main_v50, Step.K_main_v49, Step.K_main_v48, Step.K_main_cst_6, Step.K_main_v20, decayK, logDecay]

/-- The decay of a state over a chunk. -/
theorem decayC_at (h : Fin 4) : K_main_v60 (F := Ideal) (ix4 0 h 0 0) = decayC h := by
  pointwise [Step.K_main_v60, Step.K_main_v59, Step.K_main_v58, Step.K_main_v19, Step.K_main_v18, Step.K_main_v17, Step.K_main_cst_1, Step.K_main_v16, Step.K_main_v15, Step.K_main_v14, Step.K_main_cst_0, Step.K_main_v13, Step.K_main_v12, Step.K_main_cst, Step.K_main_v11, Step.K_main_v57, Step.K_main_cst_7, decayC, logDecay]

/-- The queries, chunk by chunk. -/
theorem queries_at (p : FVec Ideal S32768x5888 .bf16) (n b : Fin 16) (i : Fin 128) (h : Fin 4) (d : Fin 128) :
    A_main_v62 (F := Ideal) p (ix5 n b i h d) = rq (fn2 p) b n h i d := by
  pointwise [Step.A_main_v62, Step.A_main_v61, Step.A_main_v5, Step.A_main_v1, Step.A_main_v0]

/-- The keys under their scale. -/
theorem keys_at (p : FVec Ideal S32768x5888 .bf16) (n b : Fin 16) (i : Fin 128) (h : Fin 4) (d : Fin 128) :
    A_main_v66 (F := Ideal) p (ix5 n b i h d) = rk (fn2 p) b n h i d * keyScale := by
  pointwise [Step.A_main_v66, Step.A_main_v65, Step.A_main_v64, Step.A_main_v6, Step.A_main_v1, Step.A_main_v0, Step.K_main_v63, Step.K_main_cst_8]

/-- The values. -/
theorem values_at (p : FVec Ideal S32768x5888 .bf16) (n b : Fin 16) (i : Fin 128) (h : Fin 4) (v : Fin 256) :
    A_main_v68 (F := Ideal) p (ix5 n b i h v) = rv (fn2 p) b n h i v := by
  pointwise [Step.A_main_v68, Step.A_main_v67, Step.A_main_v7, Step.A_main_v1, Step.A_main_v0]

section trip

variable (n : Fin 16) (s : State Ideal)

/-- A block of one chunk lies within the sixteen. -/
theorem fits_keys : ∀ n : Fin 16, S16x16x128x4x128.Slices ![n.val, 0, 0, 0, 0] S1x16x128x4x128 := by decide
/-- The same of the values. -/
theorem fits_values : ∀ n : Fin 16, S16x16x128x4x256.Slices ![n.val, 0, 0, 0, 0] S1x16x128x4x256 := by decide

/-- Where a trip's block starts. -/
theorem starts (w : IVec S_ 32) (z : S_.Idx) (hw : (w z).toInt = (n.val : Int)) (x0 x1 x2 x3 : IVec S_ 32) (h0 : (x0 z).toInt = 0) (h1 : (x1 z).toInt = 0)
    (h2 : (x2 z).toInt = 0) (h3 : (x3 z).toInt = 0) (a : Fin 5) :
    ((![w, x0, x1, x2, x3] : Fin 5 → IVec S_ 32) a z).toInt = ((![n.val, 0, 0, 0, 0] : Fin 5 → ℕ) a : Int) := by
  match a with
  | ⟨0, _⟩ => exact hw
  | ⟨1, _⟩ => exact h0
  | ⟨2, _⟩ => exact h1
  | ⟨3, _⟩ => exact h2
  | ⟨4, _⟩ => exact h3

/-- The number of a trip as a word. -/
theorem trip_word : (BitVec.ofNat 32 n.val).toInt = (n.val : Int) := toInt_ofNat_of_lt (by have := n.isLt; omega)

/-- A trip's queries. -/
theorem b5_at (b : Fin 16) (i : Fin 128) (h : Fin 4) (d : Fin 128) : b5 n.val s (ix4 b i h d) = s.main_v71_0 (ix5 n b i h d) := by
  have e : b4 n.val s = extractStridedSlice S1x16x128x4x128 ![n.val, 0, 0, 0, 0] s.main_v71_0 (fits_keys n) :=
    dynamicSlice_eq_extract _ _ _ _ _ _ (starts n _ _ (trip_word n) _ _ _ _ rfl rfl rfl rfl)
  unfold b5
  rw [e]
  pointwise

/-- A trip's keys. -/
theorem b11_at (b : Fin 16) (i : Fin 128) (h : Fin 4) (d : Fin 128) : b11 n.val s (ix4 b i h d) = s.main_v71_1 (ix5 n b i h d) := by
  have e : b10 n.val s = extractStridedSlice S1x16x128x4x128 ![n.val, 0, 0, 0, 0] s.main_v71_1 (fits_keys n) :=
    dynamicSlice_eq_extract _ _ _ _ _ _ (starts n _ _ (trip_word n) _ _ _ _ rfl rfl rfl rfl)
  unfold b11
  rw [e]
  pointwise

/-- A trip's values. -/
theorem b17_at (b : Fin 16) (i : Fin 128) (h : Fin 4) (v : Fin 256) : b17 n.val s (ix4 b i h v) = s.main_v71_2 (ix5 n b i h v) := by
  have e : b16 n.val s = extractStridedSlice S1x16x128x4x256 ![n.val, 0, 0, 0, 0] s.main_v71_2 (fits_values n) :=
    dynamicSlice_eq_extract _ _ _ _ _ _ (starts n _ _ (trip_word n) _ _ _ _ rfl rfl rfl rfl)
  unfold b17
  rw [e]
  pointwise

/-- The decayed products of a trip's queries and keys. -/
theorem b21_at (b : Fin 16) (h : Fin 4) (i j : Fin 128) : b21 n.val s (ix4 b h i j)
    = (∑ d : Fin 128, s.main_v71_0 (ix5 n b i h d) * s.main_v71_1 (ix5 n b j h d)) * decayIn h i j := by
  have e : b21 n.val s (ix4 b h i j) = (∑ d : Fin 128, b5 n.val s (ix4 b i h d) * b11 n.val s (ix4 b j h d)) * K_main_v36 (F := Ideal) (ix3 h i j) := by
    unfold b21 b20 b19 b18
    generalize b5 n.val s = x
    generalize b11 n.val s = y
    pointwise
  rw [e, decayIn_at]
  simp only [b5_at, b11_at]

/-- What a trip puts out. -/
theorem b28_at (b : Fin 16) (i : Fin 128) (h : Fin 4) (v : Fin 256) : b28 n.val s (ix4 b i h v)
    = (∑ j : Fin 128, s.main_v71_2 (ix5 n b j h v) * ((∑ d : Fin 128, s.main_v71_0 (ix5 n b i h d) * s.main_v71_1 (ix5 n b j h d)) * decayIn h i j))
      + (∑ d : Fin 128, s.main_v71_8 (ix4 b h d v) * s.main_v71_0 (ix5 n b i h d)) * decayQ h i := by
  have e : b28 n.val s (ix4 b i h v) = (∑ j : Fin 128, b17 n.val s (ix4 b j h v) * b21 n.val s (ix4 b h i j))
      + (∑ d : Fin 128, s.main_v71_8 (ix4 b h d v) * b5 n.val s (ix4 b i h d)) * K_main_v46 (F := Ideal) (ix4 0 i h 0) := by
    unfold b28 b27 b26 b25 b24 b23 b22
    generalize b5 n.val s = x
    generalize b17 n.val s = y
    generalize b21 n.val s = z
    generalize s.main_v71_8 = w
    pointwise
  rw [e, decayQ_at]
  simp only [b5_at, b17_at, b21_at]

/-- The state a trip leaves. -/
theorem b34_at (b : Fin 16) (h : Fin 4) (d : Fin 128) (v : Fin 256) : b34 n.val s (ix4 b h d v)
    = decayC h * s.main_v71_8 (ix4 b h d v)
      + ∑ i : Fin 128, s.main_v71_1 (ix5 n b i h d) * decayK h i * s.main_v71_2 (ix5 n b i h v) := by
  have e : b34 n.val s (ix4 b h d v) = K_main_v60 (F := Ideal) (ix4 0 h 0 0) * s.main_v71_8 (ix4 b h d v)
      + ∑ i : Fin 128, b11 n.val s (ix4 b i h d) * K_main_v56 (F := Ideal) (ix4 0 i h 0) * b17 n.val s (ix4 b i h v) := by
    unfold b34 b33 b32 b31 b30 b29
    generalize b11 n.val s = x
    generalize b17 n.val s = y
    generalize s.main_v71_8 = w
    pointwise
  rw [e, decayC_at]
  simp only [b11_at, b17_at, decayK_at]

/-- A trip writes its own chunk and leaves the others. -/
theorem b40_at (k b : Fin 16) (i : Fin 128) (h : Fin 4) (v : Fin 256) : b40 n.val s (ix5 k b i h v)
    = if k = n then b28 n.val s (ix4 b i h v) else s.main_v71_9 (ix5 k b i h v) := by
  have e : b40 n.val s = updateSlice s.main_v71_9 (b35 n.val s) ![n.val, 0, 0, 0, 0] (fits_values n) :=
    dynamicUpdateSlice_eq_update _ _ _ _ _ _ (starts n _ _ (trip_word n) _ _ _ _ rfl rfl rfl rfl)
  have f : b35 n.val s (ix5 0 b i h v) = b28 n.val s (ix4 b i h v) := by
    unfold b35
    generalize b28 n.val s = x
    pointwise
  rw [e]
  by_cases hk : k = n
  · rw [if_pos hk, ← f]
    subst hk
    unfold updateSlice
    rw [dif_pos]
    · congr 1
      funext a
      apply Fin.ext
      match a with
      | ⟨0, _⟩ => exact Nat.sub_self k.val
      | ⟨1, _⟩ => exact Nat.sub_zero _
      | ⟨2, _⟩ => exact Nat.sub_zero _
      | ⟨3, _⟩ => exact Nat.sub_zero _
      | ⟨4, _⟩ => exact Nat.sub_zero _
    · intro a
      match a with
      | ⟨0, _⟩ => exact ⟨le_rfl, Nat.lt_succ_self _⟩
      | ⟨1, _⟩ => exact ⟨Nat.zero_le _, b.isLt⟩
      | ⟨2, _⟩ => exact ⟨Nat.zero_le _, i.isLt⟩
      | ⟨3, _⟩ => exact ⟨Nat.zero_le _, h.isLt⟩
      | ⟨4, _⟩ => exact ⟨Nat.zero_le _, v.isLt⟩
  · rw [if_neg hk]
    unfold updateSlice
    rw [dif_neg]
    intro hh
    have h0 := hh 0
    change n.val ≤ k.val ∧ k.val < n.val + 1 at h0
    exact hk (Fin.ext (by omega))

end trip

/-- The states after the trips. -/
def iter (p : FVec Ideal S32768x5888 .bf16) : ℕ → State Ideal
  | 0 => init p
  | n + 1 => step n (iter p n)

variable (p : FVec Ideal S32768x5888 .bf16)

/-- The queries, keys and values stay. -/
theorem iter_reads (n : ℕ) : (iter p n).main_v71_0 = A_main_v62 p ∧ (iter p n).main_v71_1 = A_main_v66 p ∧ (iter p n).main_v71_2 = A_main_v68 p := by
  induction n with
  | zero => exact ⟨rfl, rfl, rfl⟩
  | succ n ih => exact ih

/-- The state before trip `n`. -/
theorem iter_state (n : ℕ) (hn : n ≤ 16) (b : Fin 16) (h : Fin 4) (d : Fin 128) (v : Fin 256) :
    (iter p n).main_v71_8 (ix4 b h d v) = stateAt (fn2 p) b h n d v := by
  induction n generalizing d v with
  | zero =>
    have e : K_main_v69 (F := Ideal) (ix4 b h d v) = 0 := by pointwise [K_main_v69, K_main_cst_9]
    exact e
  | succ n ih =>
    have hr := iter_reads p n
    have e := b34_at ⟨n, hn⟩ (iter p n) b h d v
    have hf : (Fin.ofNat 16 n) = ⟨n, hn⟩ := Fin.ext (Nat.mod_eq_of_lt hn)
    change b34 n (iter p n) (ix4 b h d v) = _
    change b34 n (iter p n) (ix4 b h d v) = _ at e
    rw [e, stateAt, ih (by omega), hr.2.1, hr.2.2, hf]
    simp only [keys_at, values_at]

/-- The chunks put out before trip `n`. -/
theorem iter_out (n : ℕ) (hn : n ≤ 16) (k b : Fin 16) (hk : k.val < n) (i : Fin 128) (h : Fin 4) (v : Fin 256) :
    (iter p n).main_v71_9 (ix5 k b i h v) = ret (fn2 p) b k h i v := by
  induction n with
  | zero => exact absurd hk (Nat.not_lt_zero _)
  | succ n ih =>
    have hr := iter_reads p n
    have e := b40_at ⟨n, hn⟩ (iter p n) k b i h v
    change b40 n (iter p n) (ix5 k b i h v) = _
    change b40 n (iter p n) (ix5 k b i h v) = _ at e
    rw [e]
    by_cases hkn : k = ⟨n, hn⟩
    · obtain ⟨σ, hσ, hs⟩ := keyScale_real
      have h0 : (0 : EReal) ≤ keyScale := hs ▸ EReal.coe_nonneg.mpr hσ
      have h1 : keyScale ≠ ⊤ := hs ▸ EReal.coe_ne_top σ
      rw [if_pos hkn, b28_at, ret, hr.1, hr.2.1, hr.2.2, hkn]
      simp only [queries_at, keys_at, values_at, iter_state p n (by omega), ← mul_assoc, sum_mul_of_nonneg _ _ h0 h1]
      congr 1
      · exact Finset.sum_congr rfl fun j _ => by rw [mul_comm (rv _ _ _ _ _ _) , mul_assoc (∑ d, _), mul_assoc, mul_comm (rv _ _ _ _ _ _), ← mul_assoc, ← mul_assoc]; exact mul_right_comm _ _ _
      · congr 1
        exact Finset.sum_congr rfl fun d _ => mul_comm _ _
    · rw [if_neg hkn]
      exact ih (by omega) (by have : k.val ≠ n := fun h => hkn (Fin.ext h); omega)

/-- The retention when the loop is done. -/
theorem loop_out (b n : Fin 16) (i : Fin 128) (h : Fin 4) (v : Fin 256) :
    (iter p 16).main_v71_9 (ix5 n b i h v) = ret (fn2 p) b n h i v :=
  iter_out p 16 le_rfl n b n.isLt i h v

end Cert.Proof.Mix.Ref
end
-- ==== Proof.MixRefB.lean ====
/-
  The reference's attention read at an index: the softmax over the scores and the sink, and the values under it.
-/
module

public import proofs.«01_k».proof.Proof.MixRefA

@[expose] public section

set_option maxRecDepth 16384

noncomputable section

namespace Cert.Proof.Mix.Ref

open Idealize.ShloMosaic Cert.ReferenceIdeal Cert.ReferenceIdeal.Gen Cert.ReferenceIdeal.Facts

variable (p : FVec Ideal S32768x5888 .bf16) (sk : FVec Ideal S8 .f32)
/-- The scores with the sink behind them. -/
theorem withSink_at (b n : Fin 16) (k : Fin 2) (g : Fin 4) (i : Fin 128) (j : Fin 257) :
    withSink p sk (ix6 b n k g i j) = behind (score (fn2 p) b n ⟨k.val * 4 + g.val, by omega⟩ i) (sk (ix1 ⟨k.val * 4 + g.val, by omega⟩)) j := by
  have e : withSink p sk (ix6 b n k g i j) = if h : j.val < 256 then maskedScores p (ix6 b n k g i ⟨j.val, h⟩)
      else sk (ix1 ⟨k.val * 4 + g.val, by omega⟩) := by pointwise [withSink]
  rw [e, behind]
  split
  · rw [maskedScores_at]
  · rfl

/-- A maximum of two arrays at an index. -/
theorem floor_max (w : FVec Ideal S16x16x2x4x128 .f32) (i : S16x16x2x4x128.Idx) :
    maximumf (broadcastInDim S16x16x2x4x128 ![] bcast_S_S16x16x2x4x128 (constant (F := Ideal) S_ .f32 0xFF800000#32)) w i
      = max (Ideal.ofBits .f32 0xFF800000#32) (w i) := rfl

/-- A row's greatest as a maximum over the last axis. -/
theorem greatest_reduce (b n : Fin 16) (k : Fin 2) (g : Fin 4) (i : Fin 128) : greatest p sk (ix5 b n k g i) = max (Ideal.ofBits .f32 0xFF800000#32)
      (Host.reduce FloatOps.maximumf (withSink p sk) (constant (F := Ideal) S_ .f32 0xFF800000#32) reducesTo_S16x16x2x4x128x257_S16x16x2x4x128_d5 h_S_ (ix5 b n k g i)) := by
  rw [greatest]
  exact floor_max _ _

/-- A row's greatest. -/
theorem greatest_at (b n : Fin 16) (k : Fin 2) (g : Fin 4) (i : Fin 128) :
    greatest p sk (ix5 b n k g i) = rowTop (score (fn2 p) b n ⟨k.val * 4 + g.val, by omega⟩ i) (sk (ix1 ⟨k.val * 4 + g.val, by omega⟩)) := by
  have f := last_max reducesTo_S16x16x2x4x128x257_S16x16x2x4x128_d5 (withSink p sk) (constant (F := Ideal) S_ .f32 0xFF800000#32) h_S_ b n k g i
  have z : (constant (F := Ideal) S_ .f32 0xFF800000#32) (Shape.Idx.first h_S_) = (⊥ : EReal) := neg_inf
  have w : (fun j : Fin 257 => withSink p sk (ix6 b n k g i j)) = behind (score (fn2 p) b n ⟨k.val * 4 + g.val, by omega⟩ i) (sk (ix1 ⟨k.val * 4 + g.val, by omega⟩)) := funext fun j => withSink_at p sk b n k g i j
  rw [z, w] at f
  rw [greatest_reduce, neg_inf, max_bot_left, f]
  exact fold_behind _ _

/-- A row's weights. -/
theorem exponentials_at (b n : Fin 16) (k : Fin 2) (g : Fin 4) (i : Fin 128) (j : Fin 257) :
    exponentials p sk (ix6 b n k g i j) = Ideal.exp (withSink p sk (ix6 b n k g i j) - greatest p sk (ix5 b n k g i)) := by
  pointwise [exponentials]

/-- A row's weights over their sum. -/
theorem probabilities_at (b n : Fin 16) (k : Fin 2) (g : Fin 4) (i : Fin 128) (j : Fin 257) :
    probabilities p sk (ix6 b n k g i j) = Ideal.div (Ideal.exp (withSink p sk (ix6 b n k g i j) - greatest p sk (ix5 b n k g i)))
      (rowSum (score (fn2 p) b n ⟨k.val * 4 + g.val, by omega⟩ i) (sk (ix1 ⟨k.val * 4 + g.val, by omega⟩))) := by
  have e : probabilities p sk (ix6 b n k g i j) = Ideal.div (exponentials p sk (ix6 b n k g i j))
      (Ideal.hostReduceAdd reducesTo_S16x16x2x4x128x257_S16x16x2x4x128_d5 (exponentials p sk) 0 (ix5 b n k g i)) := by
    pointwise [probabilities]
  have f := last_sum reducesTo_S16x16x2x4x128x257_S16x16x2x4x128_d5 (exponentials p sk) 0 b n k g i
  have w : (fun j : Fin 257 => exponentials p sk (ix6 b n k g i j)) = fun j => Ideal.exp (behind (score (fn2 p) b n ⟨k.val * 4 + g.val, by omega⟩ i) (sk (ix1 ⟨k.val * 4 + g.val, by omega⟩)) j - rowTop (score (fn2 p) b n ⟨k.val * 4 + g.val, by omega⟩ i) (sk (ix1 ⟨k.val * 4 + g.val, by omega⟩))) :=
    funext fun j => by rw [exponentials_at, withSink_at, greatest_at]
  rw [w, sum_behind, zero_add] at f
  rw [e, f, exponentials_at]

/-- The attention as a sum over the keys. -/
theorem attRows_eq (b n : Fin 16) (i : Fin 128) (c : Fin 512) :
    attRows p sk (ix3 b ⟨n.val * 128 + i.val, by omega⟩ c) = ∑ j : Fin 256, valueBand p (ix5 b n j ⟨c.val / 256, by omega⟩ ⟨c.val % 64, by omega⟩)
      * probabilities p sk (ix6 b n ⟨c.val / 256, by omega⟩ ⟨c.val / 64 % 4, by omega⟩ i ⟨j.val, by omega⟩) := by
  pointwise [attRows, weighted]

/-- The attention at an index, where queries and keys are real numbers and no sink is plus infinity. -/
theorem att_at (hP : ∀ r (c : Fin 5888), c.val < 640 → ∃ x : ℝ, fn2 p r c = x) (hsk : ∀ h : Fin 8, sk (ix1 h) ≠ ⊤)
    (b n : Fin 16) (i : Fin 128) (c : Fin 512) :
    attRows p sk (ix3 b ⟨n.val * 128 + i.val, by omega⟩ c) = att (fn2 p) (fun h => sk (ix1 h)) b n i c := by
  have hh : (⟨c.val / 256 * 4 + c.val / 64 % 4, by omega⟩ : Fin 8) = ⟨c.val / 64, by omega⟩ := Fin.ext (by dsimp only; omega)
  rw [attRows_eq, att]
  refine Eq.trans ?_ (rowAtt_of_shares _ _ (fun j => score_ne_top _ hP _ _ _ _ _) (hsk _) (score_own _ hP _ _ _ _) _)
  refine Finset.sum_congr rfl fun j _ => ?_
  rw [probabilities_at, withSink_at, greatest_at, valueBand_at, show (⟨j.val, by omega⟩ : Fin 257) = j.castSucc from rfl, behind_castSucc]
  simp only [hh]
  congr 2
  exact Fin.ext (by dsimp only; omega)

end Cert.Proof.Mix.Ref
end
-- ==== Proof.MixRefTail.lean ====
/-
  The reference after its loop read at an index: head norm, gates, merge and output projection.
-/
module

public import proofs.«01_k».proof.Proof.MixRefB

@[expose] public section

set_option maxRecDepth 16384

noncomputable section

namespace Cert.Proof.Mix.Ref

open Idealize.ShloMosaic Cert.ReferenceIdeal Cert.ReferenceIdeal.Gen Cert.ReferenceIdeal.Facts

variable (p : FVec Ideal S32768x5888 .bf16) (sk : FVec Ideal S8 .f32)
section three
variable {n0 n1 n2 n3 : ℕ} (h : (⟨4, ![n0, n1, n2, n3]⟩ : Shape).ReducesTo [3] ⟨3, ![n0, n1, n2]⟩)

/-- The indices of four axes that lose their last coordinate and become a given index. -/
theorem fourth_fiber (j0 : Fin n0) (j1 : Fin n1) (j2 : Fin n2) (i : (⟨4, ![n0, n1, n2, n3]⟩ : Shape).Idx) :
    h.drop i = ix3 j0 j1 j2 ↔ ∃ k : Fin n3, ix4 j0 j1 j2 k = i := by
  constructor
  · intro e
    refine ⟨i 3, funext fun a => Fin.ext ?_⟩
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => rfl
  · rintro ⟨k, rfl⟩
    funext b
    apply Fin.ext
    match b with
    | ⟨0, _⟩ => rfl
    | ⟨1, _⟩ => rfl
    | ⟨2, _⟩ => rfl

/-- A sum over the last of four axes. -/
theorem fourth_sum (x : (⟨4, ![n0, n1, n2, n3]⟩ : Shape).Idx → EReal) (init : EReal) (j0 : Fin n0) (j1 : Fin n1) (j2 : Fin n2) :
    Ideal.hostReduceAdd h x init (ix3 j0 j1 j2) = init + ∑ k : Fin n3, x (ix4 j0 j1 j2 k) :=
  congrArg (init + ·) (Finset.sum_filter_eq_sum_of_fiber _ (fun k : Fin n3 => ix4 j0 j1 j2 k)
    (fun _ _ e => congrFun e 3) (fourth_fiber h j0 j1 j2) x)

end three

variable (o : FVec Ideal S16x16x128x4x256 .f32) (p : FVec Ideal S32768x5888 .bf16) (g : FVec Ideal S1024 .f32)

/-- The loop's outputs as rows. -/
theorem retRows_at (b n : Fin 16) (i : Fin 128) (h : Fin 4) (v : Fin 256) :
    retRows o (ix4 b ⟨n.val * 128 + i.val, by omega⟩ h v) = o (ix5 n b i h v) := by
  pointwise [retRows]

/-- A head's mean. -/
theorem retMean_at (b n : Fin 16) (i : Fin 128) (h : Fin 4) :
    retMean o (ix4 b ⟨n.val * 128 + i.val, by omega⟩ h 0) = headMean fun v => o (ix5 n b i h v) := by
  have e : retMean o (ix4 b ⟨n.val * 128 + i.val, by omega⟩ h 0) = Ideal.div
      (Ideal.hostReduceAdd reducesTo_S16x2048x4x256_S16x2048x4_d3 (retRows o) 0 (ix3 b ⟨n.val * 128 + i.val, by omega⟩ h)) headLen := by
    pointwise [retMean]
  rw [e, fourth_sum, zero_add, headMean]
  simp only [retRows_at]

/-- A head's row centred. -/
theorem retCentre_at (b n : Fin 16) (i : Fin 128) (h : Fin 4) (v : Fin 256) :
    retCentre o (ix4 b ⟨n.val * 128 + i.val, by omega⟩ h v) = o (ix5 n b i h v) - headMean fun v => o (ix5 n b i h v) := by
  rw [← retMean_at o b n i h, ← retRows_at o b n i h v]
  pointwise [retCentre]

/-- A head's row at unit variance. -/
theorem retNormed_at (b n : Fin 16) (i : Fin 128) (h : Fin 4) (v : Fin 256) :
    retNormed o (ix4 b ⟨n.val * 128 + i.val, by omega⟩ h v) = (o (ix5 n b i h v) - headMean fun v => o (ix5 n b i h v))
      * Ideal.rsqrt (headMean (fun k => (o (ix5 n b i h k) - headMean fun v => o (ix5 n b i h v)) * (o (ix5 n b i h k) - headMean fun v => o (ix5 n b i h v))) + headEps) := by
  have e : retNormed o (ix4 b ⟨n.val * 128 + i.val, by omega⟩ h v) = retCentre o (ix4 b ⟨n.val * 128 + i.val, by omega⟩ h v)
      * Ideal.rsqrt (Ideal.div (Ideal.hostReduceAdd reducesTo_S16x2048x4x256_S16x2048x4_d3 (mulf (retCentre o) (retCentre o)) 0 (ix3 b ⟨n.val * 128 + i.val, by omega⟩ h)) headLen + headEps) := by
    pointwise [retNormed]
  have f : (fun k : Fin 256 => mulf (retCentre o) (retCentre o) (ix4 b ⟨n.val * 128 + i.val, by omega⟩ h k))
      = fun k => (o (ix5 n b i h k) - headMean fun v => o (ix5 n b i h v)) * (o (ix5 n b i h k) - headMean fun v => o (ix5 n b i h v)) :=
    funext fun k => by rw [← retCentre_at o b n i h k]; rfl
  rw [e, fourth_sum, zero_add, f, retCentre_at]
  rfl

/-- The retention after norm, gain and gate, as a head's row. -/
theorem retGated_at (b n : Fin 16) (i : Fin 128) (c : Fin 1024) :
    retGated p g o (ix3 b ⟨n.val * 128 + i.val, by omega⟩ c) = retNormed o (ix4 b ⟨n.val * 128 + i.val, by omega⟩ ⟨c.val / 256, by omega⟩ ⟨c.val % 256, by omega⟩)
      * g (ix1 c) * (p (ix2 (rowAt b n i) ⟨2816 + c.val, by omega⟩) * Ideal.logistic (p (ix2 (rowAt b n i) ⟨2816 + c.val, by omega⟩))) := by
  unfold Ideal.logistic
  pointwise [retGated, projection]

/-- The attention's gate. -/
theorem gateA_at (b n : Fin 16) (i : Fin 128) (c : Fin 1024) :
    gateA p (ix3 b ⟨n.val * 128 + i.val, by omega⟩ c) = Ideal.logistic (p (ix2 (rowAt b n i) ⟨3840 + c.val, by omega⟩)) := by
  unfold Ideal.logistic
  pointwise [gateA, projection]

/-- The retention's gate. -/
theorem gateR_at (b n : Fin 16) (i : Fin 128) (c : Fin 1024) :
    gateR p (ix3 b ⟨n.val * 128 + i.val, by omega⟩ c) = Ideal.logistic (p (ix2 (rowAt b n i) ⟨4864 + c.val, by omega⟩)) := by
  unfold Ideal.logistic
  pointwise [gateR, projection]

/-- The gated retention, where the loop left the retention. -/
theorem gated_at (ho : ∀ b n i h v, o (ix5 n b i h v) = ret (fn2 p) b n h i v) (b n : Fin 16) (i : Fin 128) (c : Fin 1024) :
    retGated p g o (ix3 b ⟨n.val * 128 + i.val, by omega⟩ c) = gatedRet (fn2 p) (fun k => g (ix1 k)) b n i c := by
  have hc : ∀ a : ℕ, a + (c.val / 256 * 256 + c.val % 256) = a + c.val := fun a => by omega
  rw [retGated_at, retNormed_at, gatedRet, headGate]
  simp only [ho]
  congr 2
  · exact congrArg (fun k => g (ix1 k)) (Fin.ext (by dsimp only; omega))
  · exact congrArg (fun k => p (ix2 _ k)) (Fin.ext (hc _).symm)
  · exact congrArg (fun k => Ideal.logistic (p (ix2 _ k))) (Fin.ext (hc _).symm)

variable (x : FVec Ideal S32768x1024 .f32) (sk : FVec Ideal S8 .f32) (wa : FVec Ideal S512x1024 .f32) (wr wo : FVec Ideal S1024x1024 .f32)

/-- The two products under their gates. -/
theorem mergedRows_at (b n : Fin 16) (i : Fin 128) (c : Fin 1024) :
    mergedRows p sk g wa wr o (ix3 b ⟨n.val * 128 + i.val, by omega⟩ c) =
      gateA p (ix3 b ⟨n.val * 128 + i.val, by omega⟩ c) * (∑ k : Fin 512, attRows p sk (ix3 b ⟨n.val * 128 + i.val, by omega⟩ k) * wa (ix2 k c))
      + gateR p (ix3 b ⟨n.val * 128 + i.val, by omega⟩ c) * (∑ k : Fin 1024, retGated p g o (ix3 b ⟨n.val * 128 + i.val, by omega⟩ k) * wr (ix2 k c)) := by
  pointwise [mergedRows]

/-- The residual plus the output projection. -/
theorem outRows_at (b n : Fin 16) (i : Fin 128) (c : Fin 1024) :
    outRows p x sk g wa wr wo o (ix3 b ⟨n.val * 128 + i.val, by omega⟩ c) = x (ix2 (rowAt b n i) c)
      + ∑ k : Fin 1024, mergedRows p sk g wa wr o (ix3 b ⟨n.val * 128 + i.val, by omega⟩ k) * wo (ix2 k c) := by
  pointwise [outRows]

/-- The result at an index, where the loop left the retention. -/
theorem mixer_at (ho : ∀ b n i h v, o (ix5 n b i h v) = ret (fn2 p) b n h i v)
    (hP : ∀ r (c : Fin 5888), c.val < 640 → ∃ x : ℝ, fn2 p r c = x) (hsk : ∀ h : Fin 8, sk (ix1 h) ≠ ⊤)
    (b n : Fin 16) (i : Fin 128) (c : Fin 1024) :
    shapeCast S32768x1024 (outRows p x sk g wa wr wo o) shapeCasts_S16x2048x1024_S32768x1024 (ix2 (rowAt b n i) c)
      = mixer (fn2 p) (fn2 x) (fun h => sk (ix1 h)) (fun k => g (ix1 k)) (fn2 wa) (fn2 wr) (fn2 wo) b n i c := by
  have e : shapeCast S32768x1024 (outRows p x sk g wa wr wo o) shapeCasts_S16x2048x1024_S32768x1024 (ix2 (rowAt b n i) c)
      = outRows p x sk g wa wr wo o (ix3 b ⟨n.val * 128 + i.val, by omega⟩ c) := by
    pointwise
    exact congrArg₂ (fun a d => outRows p x sk g wa wr wo o (ix3 a d c)) (Fin.ext (by dsimp only; omega)) (Fin.ext (by dsimp only; omega))
  rw [e, outRows_at, mixer]
  congr 1
  refine Finset.sum_congr rfl fun k _ => ?_
  rw [mergedRows_at, merged, gateA_at, gateR_at]
  simp only [att_at p sk hP hsk, gated_at o p g ho]

end Cert.Proof.Mix.Ref
end
-- ==== Proof.RefLoop.lean ====
/-
  The loop of the mixer's reference, one trip after another. A valuation of the program's buffers holds a state when the buffers the
  loop carries have the state's values, the loop's constants have theirs and the counter has the trip's number. Every value a trip
  computes is then a value of the step function at that state, so a trip keeps the valuation holding, and the program's result is read
  from the state after sixteen trips.
-/
module

public import proofs.«01_k».proof.Proof.Gen.ReferenceIdeal.Run
public import proofs.«01_k».proof.Proof.Gen.ReferenceIdeal.Step

@[expose] public section

noncomputable section

namespace Cert.Proof.Mix.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_8 : V0 (Proc.devRef .tc main_v71_8) = s.main_v71_8
  f_9 : V0 (Proc.devRef .tc main_v71_9) = s.main_v71_9
  f_0 : V0 (Proc.devRef .tc main_v71_0) = s.main_v71_0
  f_1 : V0 (Proc.devRef .tc main_v71_1) = s.main_v71_1
  f_2 : V0 (Proc.devRef .tc main_v71_2) = s.main_v71_2
  n_7 : V0 (Proc.devRef .tc main_v71_7) = constantI S_ 32 (BitVec.ofNat 32 j)
  k_3 : V0 (Proc.devRef .tc main_v71_3) = Cert.ReferenceIdeal.Step.K_main_v36 (F := F)
  k_4 : V0 (Proc.devRef .tc main_v71_4) = Cert.ReferenceIdeal.Step.K_main_v46 (F := F)
  k_5 : V0 (Proc.devRef .tc main_v71_5) = Cert.ReferenceIdeal.Step.K_main_v60 (F := F)
  k_6 : V0 (Proc.devRef .tc main_v71_6) = Cert.ReferenceIdeal.Step.K_main_v56 (F := F)

variable {V0 s j}

set_option maxRecDepth 8192 in
/-- Value 0 of a trip is value 0 of the step function at the state held. -/
theorem value_0 (h : Holds V0 s j) : (constantI S_ 32 0#32 : (Proc.devRef .tc main_while0b_call1_c : DevRef τ sig).ty.Contents (Elt F)) = Cert.ReferenceIdeal.Step.b0 j s := by
  unfold Cert.ReferenceIdeal.Step.b0
  rfl
set_option maxRecDepth 8192 in
/-- Value 1 of a trip is value 1 of the step function at the state held. -/
theorem value_1 (h : Holds V0 s j) : (constantI S_ 32 0#32 : (Proc.devRef .tc main_while0b_call1_c_0 : DevRef τ sig).ty.Contents (Elt F)) = Cert.ReferenceIdeal.Step.b1 j s := by
  unfold Cert.ReferenceIdeal.Step.b1
  rfl
set_option maxRecDepth 8192 in
/-- Value 2 of a trip is value 2 of the step function at the state held. -/
theorem value_2 (h : Holds V0 s j) : (constantI S_ 32 0#32 : (Proc.devRef .tc main_while0b_call1_c_1 : DevRef τ sig).ty.Contents (Elt F)) = Cert.ReferenceIdeal.Step.b2 j s := by
  unfold Cert.ReferenceIdeal.Step.b2
  rfl
set_option maxRecDepth 8192 in
/-- Value 3 of a trip is value 3 of the step function at the state held. -/
theorem value_3 (h : Holds V0 s j) : (constantI S_ 32 0#32 : (Proc.devRef .tc main_while0b_call1_c_2 : DevRef τ sig).ty.Contents (Elt F)) = Cert.ReferenceIdeal.Step.b3 j s := by
  unfold Cert.ReferenceIdeal.Step.b3
  rfl
set_option maxRecDepth 8192 in
/-- Value 4 of a trip is value 4 of the step function at the state held. -/
theorem value_4 (h : Holds V0 s j) : (Host.dynamicSlice S1x16x128x4x128 (V0 (Proc.devRef .tc main_v71_0)) (fun k => (((![V0 (Proc.devRef .tc main_v71_7), constantI S_ 32 0#32, constantI S_ 32 0#32, constantI S_ 32 0#32, constantI S_ 32 0#32] : Fin 5 → (⟨S_, .i32⟩ : BufTy).Contents (Elt F))) k (Shape.Idx.first h_S_)).toInt) sliceFits_S16x16x128x4x128_S1x16x128x4x128 : (Proc.devRef .tc main_while0b_call1_v0 : DevRef τ sig).ty.Contents (Elt F)) = Cert.ReferenceIdeal.Step.b4 j s := by
  unfold Cert.ReferenceIdeal.Step.b4
  rw [← value_0 h, ← value_1 h, ← value_2 h, ← value_3 h, h.f_0, h.n_7]
  try rfl
set_option maxRecDepth 8192 in
/-- Value 5 of a trip is value 5 of the step function at the state held. -/
theorem value_5 (h : Holds V0 s j) : (res_main_while0b_v220 V0 : (Proc.devRef .tc main_while0b_v220 : DevRef τ sig).ty.Contents (Elt F)) = Cert.ReferenceIdeal.Step.b5 j s := by
  unfold res_main_while0b_v220 Cert.ReferenceIdeal.Step.b5
  rw [← value_4 h]
  try rfl
set_option maxRecDepth 8192 in
/-- Value 6 of a trip is value 6 of the step function at the state held. -/
theorem value_6 (h : Holds V0 s j) : (constantI S_ 32 0#32 : (Proc.devRef .tc main_while0b_call2_c : DevRef τ sig).ty.Contents (Elt F)) = Cert.ReferenceIdeal.Step.b6 j s := by
  unfold Cert.ReferenceIdeal.Step.b6
  rfl
set_option maxRecDepth 8192 in
/-- Value 7 of a trip is value 7 of the step function at the state held. -/
theorem value_7 (h : Holds V0 s j) : (constantI S_ 32 0#32 : (Proc.devRef .tc main_while0b_call2_c_0 : DevRef τ sig).ty.Contents (Elt F)) = Cert.ReferenceIdeal.Step.b7 j s := by
  unfold Cert.ReferenceIdeal.Step.b7
  rfl
set_option maxRecDepth 8192 in
/-- Value 8 of a trip is value 8 of the step function at the state held. -/
theorem value_8 (h : Holds V0 s j) : (constantI S_ 32 0#32 : (Proc.devRef .tc main_while0b_call2_c_1 : DevRef τ sig).ty.Contents (Elt F)) = Cert.ReferenceIdeal.Step.b8 j s := by
  unfold Cert.ReferenceIdeal.Step.b8
  rfl
set_option maxRecDepth 8192 in
/-- Value 9 of a trip is value 9 of the step function at the state held. -/
theorem value_9 (h : Holds V0 s j) : (constantI S_ 32 0#32 : (Proc.devRef .tc main_while0b_call2_c_2 : DevRef τ sig).ty.Contents (Elt F)) = Cert.ReferenceIdeal.Step.b9 j s := by
  unfold Cert.ReferenceIdeal.Step.b9
  rfl
set_option maxRecDepth 8192 in
/-- Value 10 of a trip is value 10 of the step function at the state held. -/
theorem value_10 (h : Holds V0 s j) : (Host.dynamicSlice S1x16x128x4x128 (V0 (Proc.devRef .tc main_v71_1)) (fun k => (((![V0 (Proc.devRef .tc main_v71_7), constantI S_ 32 0#32, constantI S_ 32 0#32, constantI S_ 32 0#32, constantI S_ 32 0#32] : Fin 5 → (⟨S_, .i32⟩ : BufTy).Contents (Elt F))) k (Shape.Idx.first h_S_)).toInt) sliceFits_S16x16x128x4x128_S1x16x128x4x128 : (Proc.devRef .tc main_while0b_call2_v0 : DevRef τ sig).ty.Contents (Elt F)) = Cert.ReferenceIdeal.Step.b10 j s := by
  unfold Cert.ReferenceIdeal.Step.b10
  rw [← value_6 h, ← value_7 h, ← value_8 h, ← value_9 h, h.f_1, h.n_7]
  try rfl
set_option maxRecDepth 8192 in
/-- Value 11 of a trip is value 11 of the step function at the state held. -/
theorem value_11 (h : Holds V0 s j) : (res_main_while0b_v221 V0 : (Proc.devRef .tc main_while0b_v221 : DevRef τ sig).ty.Contents (Elt F)) = Cert.ReferenceIdeal.Step.b11 j s := by
  unfold res_main_while0b_v221 Cert.ReferenceIdeal.Step.b11
  rw [← value_10 h]
  try rfl
set_option maxRecDepth 8192 in
/-- Value 12 of a trip is value 12 of the step function at the state held. -/
theorem value_12 (h : Holds V0 s j) : (constantI S_ 32 0#32 : (Proc.devRef .tc main_while0b_call3_c : DevRef τ sig).ty.Contents (Elt F)) = Cert.ReferenceIdeal.Step.b12 j s := by
  unfold Cert.ReferenceIdeal.Step.b12
  rfl
set_option maxRecDepth 8192 in
/-- Value 13 of a trip is value 13 of the step function at the state held. -/
theorem value_13 (h : Holds V0 s j) : (constantI S_ 32 0#32 : (Proc.devRef .tc main_while0b_call3_c_0 : DevRef τ sig).ty.Contents (Elt F)) = Cert.ReferenceIdeal.Step.b13 j s := by
  unfold Cert.ReferenceIdeal.Step.b13
  rfl
set_option maxRecDepth 8192 in
/-- Value 14 of a trip is value 14 of the step function at the state held. -/
theorem value_14 (h : Holds V0 s j) : (constantI S_ 32 0#32 : (Proc.devRef .tc main_while0b_call3_c_1 : DevRef τ sig).ty.Contents (Elt F)) = Cert.ReferenceIdeal.Step.b14 j s := by
  unfold Cert.ReferenceIdeal.Step.b14
  rfl
set_option maxRecDepth 8192 in
/-- Value 15 of a trip is value 15 of the step function at the state held. -/
theorem value_15 (h : Holds V0 s j) : (constantI S_ 32 0#32 : (Proc.devRef .tc main_while0b_call3_c_2 : DevRef τ sig).ty.Contents (Elt F)) = Cert.ReferenceIdeal.Step.b15 j s := by
  unfold Cert.ReferenceIdeal.Step.b15
  rfl
set_option maxRecDepth 8192 in
/-- Value 16 of a trip is value 16 of the step function at the state held. -/
theorem value_16 (h : Holds V0 s j) : (Host.dynamicSlice S1x16x128x4x256 (V0 (Proc.devRef .tc main_v71_2)) (fun k => (((![V0 (Proc.devRef .tc main_v71_7), constantI S_ 32 0#32, constantI S_ 32 0#32, constantI S_ 32 0#32, constantI S_ 32 0#32] : Fin 5 → (⟨S_, .i32⟩ : BufTy).Contents (Elt F))) k (Shape.Idx.first h_S_)).toInt) sliceFits_S16x16x128x4x256_S1x16x128x4x256 : (Proc.devRef .tc main_while0b_call3_v0 : DevRef τ sig).ty.Contents (Elt F)) = Cert.ReferenceIdeal.Step.b16 j s := by
  unfold Cert.ReferenceIdeal.Step.b16
  rw [← value_12 h, ← value_13 h, ← value_14 h, ← value_15 h, h.f_2, h.n_7]
  try rfl
set_option maxRecDepth 8192 in
/-- Value 17 of a trip is value 17 of the step function at the state held. -/
theorem value_17 (h : Holds V0 s j) : (res_main_while0b_v222 V0 : (Proc.devRef .tc main_while0b_v222 : DevRef τ sig).ty.Contents (Elt F)) = Cert.ReferenceIdeal.Step.b17 j s := by
  unfold res_main_while0b_v222 Cert.ReferenceIdeal.Step.b17
  rw [← value_16 h]
  try rfl
set_option maxRecDepth 8192 in
/-- Value 18 of a trip is value 18 of the step function at the state held. -/
theorem value_18 (h : Holds V0 s j) : (Host.dotGeneral dot_S16x128x4x128_S16x128x4x128_S16x4x128x128_3_3_1_1_02_02 none (res_main_while0b_v220 V0) (res_main_while0b_v221 V0) : (Proc.devRef .tc main_while0b_v223 : DevRef τ sig).ty.Contents (Elt F)) = Cert.ReferenceIdeal.Step.b18 j s := by
  unfold Cert.ReferenceIdeal.Step.b18
  rw [← value_5 h, ← value_11 h]
  try rfl
set_option maxRecDepth 8192 in
/-- Value 19 of a trip is value 19 of the step function at the state held. -/
theorem value_19 (h : Holds V0 s j) : (broadcastInDim S1x4x128x128 ![1, 2, 3] bcast_S4x128x128_S1x4x128x128_1_2_3 (V0 (Proc.devRef .tc main_v71_3)) : (Proc.devRef .tc main_while0b_v224 : DevRef τ sig).ty.Contents (Elt F)) = Cert.ReferenceIdeal.Step.b19 j s := by
  unfold Cert.ReferenceIdeal.Step.b19
  rw [h.k_3]
  try rfl
set_option maxRecDepth 8192 in
/-- Value 20 of a trip is value 20 of the step function at the state held. -/
theorem value_20 (h : Holds V0 s j) : (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3))) : (Proc.devRef .tc main_while0b_v225 : DevRef τ sig).ty.Contents (Elt F)) = Cert.ReferenceIdeal.Step.b20 j s := by
  unfold Cert.ReferenceIdeal.Step.b20
  rw [← value_19 h]
  try rfl
set_option maxRecDepth 8192 in
/-- Value 21 of a trip is value 21 of the step function at the state held. -/
theorem value_21 (h : Holds V0 s j) : (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3)))) : (Proc.devRef .tc main_while0b_v226 : DevRef τ sig).ty.Contents (Elt F)) = Cert.ReferenceIdeal.Step.b21 j s := by
  unfold Cert.ReferenceIdeal.Step.b21
  rw [← value_18 h, ← value_20 h]
  try rfl
set_option maxRecDepth 8192 in
/-- Value 22 of a trip is value 22 of the step function at the state held. -/
theorem value_22 (h : Holds V0 s j) : (Host.dotGeneral dot_S16x128x4x256_S16x4x128x128_S16x4x256x128_1_3_3_2_02_01 none (res_main_while0b_v222 V0) (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3))))) : (Proc.devRef .tc main_while0b_v227 : DevRef τ sig).ty.Contents (Elt F)) = Cert.ReferenceIdeal.Step.b22 j s := by
  unfold Cert.ReferenceIdeal.Step.b22
  rw [← value_17 h, ← value_21 h]
  try rfl
set_option maxRecDepth 8192 in
/-- Value 23 of a trip is value 23 of the step function at the state held. -/
theorem value_23 (h : Holds V0 s j) : (transpose S16x128x4x256 [0, 3, 1, 2] (Host.dotGeneral dot_S16x128x4x256_S16x4x128x128_S16x4x256x128_1_3_3_2_02_01 none (res_main_while0b_v222 V0) (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3)))))) transposes_S16x4x256x128_S16x128x4x256_0_3_1_2 : (Proc.devRef .tc main_while0b_v228 : DevRef τ sig).ty.Contents (Elt F)) = Cert.ReferenceIdeal.Step.b23 j s := by
  unfold Cert.ReferenceIdeal.Step.b23
  rw [← value_22 h]
  try rfl
set_option maxRecDepth 8192 in
/-- Value 24 of a trip is value 24 of the step function at the state held. -/
theorem value_24 (h : Holds V0 s j) : (Host.dotGeneral dot_S16x4x128x256_S16x128x4x128_S16x4x256x128_2_3_3_1_01_02 none (V0 (Proc.devRef .tc main_v71_8)) (res_main_while0b_v220 V0) : (Proc.devRef .tc main_while0b_v229 : DevRef τ sig).ty.Contents (Elt F)) = Cert.ReferenceIdeal.Step.b24 j s := by
  unfold Cert.ReferenceIdeal.Step.b24
  rw [← value_5 h, h.f_8]
  try rfl
set_option maxRecDepth 8192 in
/-- Value 25 of a trip is value 25 of the step function at the state held. -/
theorem value_25 (h : Holds V0 s j) : (transpose S16x128x4x256 [0, 3, 1, 2] (Host.dotGeneral dot_S16x4x128x256_S16x128x4x128_S16x4x256x128_2_3_3_1_01_02 none (V0 (Proc.devRef .tc main_v71_8)) (res_main_while0b_v220 V0)) transposes_S16x4x256x128_S16x128x4x256_0_3_1_2 : (Proc.devRef .tc main_while0b_v230 : DevRef τ sig).ty.Contents (Elt F)) = Cert.ReferenceIdeal.Step.b25 j s := by
  unfold Cert.ReferenceIdeal.Step.b25
  rw [← value_24 h]
  try rfl
set_option maxRecDepth 8192 in
/-- Value 26 of a trip is value 26 of the step function at the state held. -/
theorem value_26 (h : Holds V0 s j) : (broadcastInDim S16x128x4x256 ![0, 1, 2, 3] bcast_S1x128x4x1_S16x128x4x256_0_1_2_3 (V0 (Proc.devRef .tc main_v71_4)) : (Proc.devRef .tc main_while0b_v231 : DevRef τ sig).ty.Contents (Elt F)) = Cert.ReferenceIdeal.Step.b26 j s := by
  unfold Cert.ReferenceIdeal.Step.b26
  rw [h.k_4]
  try rfl
set_option maxRecDepth 8192 in
/-- Value 27 of a trip is value 27 of the step function at the state held. -/
theorem value_27 (h : Holds V0 s j) : (mulf (transpose S16x128x4x256 [0, 3, 1, 2] (Host.dotGeneral dot_S16x4x128x256_S16x128x4x128_S16x4x256x128_2_3_3_1_01_02 none (V0 (Proc.devRef .tc main_v71_8)) (res_main_while0b_v220 V0)) transposes_S16x4x256x128_S16x128x4x256_0_3_1_2) (broadcastInDim S16x128x4x256 ![0, 1, 2, 3] bcast_S1x128x4x1_S16x128x4x256_0_1_2_3 (V0 (Proc.devRef .tc main_v71_4))) : (Proc.devRef .tc main_while0b_v232 : DevRef τ sig).ty.Contents (Elt F)) = Cert.ReferenceIdeal.Step.b27 j s := by
  unfold Cert.ReferenceIdeal.Step.b27
  rw [← value_25 h, ← value_26 h]
  try rfl
set_option maxRecDepth 8192 in
/-- Value 28 of a trip is value 28 of the step function at the state held. -/
theorem value_28 (h : Holds V0 s j) : (addf (transpose S16x128x4x256 [0, 3, 1, 2] (Host.dotGeneral dot_S16x128x4x256_S16x4x128x128_S16x4x256x128_1_3_3_2_02_01 none (res_main_while0b_v222 V0) (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3)))))) transposes_S16x4x256x128_S16x128x4x256_0_3_1_2) (mulf (transpose S16x128x4x256 [0, 3, 1, 2] (Host.dotGeneral dot_S16x4x128x256_S16x128x4x128_S16x4x256x128_2_3_3_1_01_02 none (V0 (Proc.devRef .tc main_v71_8)) (res_main_while0b_v220 V0)) transposes_S16x4x256x128_S16x128x4x256_0_3_1_2) (broadcastInDim S16x128x4x256 ![0, 1, 2, 3] bcast_S1x128x4x1_S16x128x4x256_0_1_2_3 (V0 (Proc.devRef .tc main_v71_4)))) : (Proc.devRef .tc main_while0b_v233 : DevRef τ sig).ty.Contents (Elt F)) = Cert.ReferenceIdeal.Step.b28 j s := by
  unfold Cert.ReferenceIdeal.Step.b28
  rw [← value_23 h, ← value_27 h]
  try rfl
set_option maxRecDepth 8192 in
/-- Value 29 of a trip is value 29 of the step function at the state held. -/
theorem value_29 (h : Holds V0 s j) : (broadcastInDim S16x4x128x256 ![0, 1, 2, 3] bcast_S1x4x1x1_S16x4x128x256_0_1_2_3 (V0 (Proc.devRef .tc main_v71_5)) : (Proc.devRef .tc main_while0b_v234 : DevRef τ sig).ty.Contents (Elt F)) = Cert.ReferenceIdeal.Step.b29 j s := by
  unfold Cert.ReferenceIdeal.Step.b29
  rw [h.k_5]
  try rfl
set_option maxRecDepth 8192 in
/-- Value 30 of a trip is value 30 of the step function at the state held. -/
theorem value_30 (h : Holds V0 s j) : (mulf (broadcastInDim S16x4x128x256 ![0, 1, 2, 3] bcast_S1x4x1x1_S16x4x128x256_0_1_2_3 (V0 (Proc.devRef .tc main_v71_5))) (V0 (Proc.devRef .tc main_v71_8)) : (Proc.devRef .tc main_while0b_v235 : DevRef τ sig).ty.Contents (Elt F)) = Cert.ReferenceIdeal.Step.b30 j s := by
  unfold Cert.ReferenceIdeal.Step.b30
  rw [← value_29 h, h.f_8]
  try rfl
set_option maxRecDepth 8192 in
/-- Value 31 of a trip is value 31 of the step function at the state held. -/
theorem value_31 (h : Holds V0 s j) : (broadcastInDim S16x128x4x128 ![0, 1, 2, 3] bcast_S1x128x4x1_S16x128x4x128_0_1_2_3 (V0 (Proc.devRef .tc main_v71_6)) : (Proc.devRef .tc main_while0b_v236 : DevRef τ sig).ty.Contents (Elt F)) = Cert.ReferenceIdeal.Step.b31 j s := by
  unfold Cert.ReferenceIdeal.Step.b31
  rw [h.k_6]
  try rfl
set_option maxRecDepth 8192 in
/-- Value 32 of a trip is value 32 of the step function at the state held. -/
theorem value_32 (h : Holds V0 s j) : (mulf (res_main_while0b_v221 V0) (broadcastInDim S16x128x4x128 ![0, 1, 2, 3] bcast_S1x128x4x1_S16x128x4x128_0_1_2_3 (V0 (Proc.devRef .tc main_v71_6))) : (Proc.devRef .tc main_while0b_v237 : DevRef τ sig).ty.Contents (Elt F)) = Cert.ReferenceIdeal.Step.b32 j s := by
  unfold Cert.ReferenceIdeal.Step.b32
  rw [← value_11 h, ← value_31 h]
  try rfl
set_option maxRecDepth 8192 in
/-- Value 33 of a trip is value 33 of the step function at the state held. -/
theorem value_33 (h : Holds V0 s j) : (Host.dotGeneral dot_S16x128x4x128_S16x128x4x256_S16x4x128x256_1_1_3_3_02_02 none (mulf (res_main_while0b_v221 V0) (broadcastInDim S16x128x4x128 ![0, 1, 2, 3] bcast_S1x128x4x1_S16x128x4x128_0_1_2_3 (V0 (Proc.devRef .tc main_v71_6)))) (res_main_while0b_v222 V0) : (Proc.devRef .tc main_while0b_v238 : DevRef τ sig).ty.Contents (Elt F)) = Cert.ReferenceIdeal.Step.b33 j s := by
  unfold Cert.ReferenceIdeal.Step.b33
  rw [← value_32 h, ← value_17 h]
  try rfl
set_option maxRecDepth 8192 in
/-- Value 34 of a trip is value 34 of the step function at the state held. -/
theorem value_34 (h : Holds V0 s j) : (addf (mulf (broadcastInDim S16x4x128x256 ![0, 1, 2, 3] bcast_S1x4x1x1_S16x4x128x256_0_1_2_3 (V0 (Proc.devRef .tc main_v71_5))) (V0 (Proc.devRef .tc main_v71_8))) (Host.dotGeneral dot_S16x128x4x128_S16x128x4x256_S16x4x128x256_1_1_3_3_02_02 none (mulf (res_main_while0b_v221 V0) (broadcastInDim S16x128x4x128 ![0, 1, 2, 3] bcast_S1x128x4x1_S16x128x4x128_0_1_2_3 (V0 (Proc.devRef .tc main_v71_6)))) (res_main_while0b_v222 V0)) : (Proc.devRef .tc main_while0b_v239 : DevRef τ sig).ty.Contents (Elt F)) = Cert.ReferenceIdeal.Step.b34 j s := by
  unfold Cert.ReferenceIdeal.Step.b34
  rw [← value_30 h, ← value_33 h]
  try rfl
set_option maxRecDepth 8192 in
/-- Value 35 of a trip is value 35 of the step function at the state held. -/
theorem value_35 (h : Holds V0 s j) : (broadcastInDim S1x16x128x4x256 ![1, 2, 3, 4] bcast_S16x128x4x256_S1x16x128x4x256_1_2_3_4 (addf (transpose S16x128x4x256 [0, 3, 1, 2] (Host.dotGeneral dot_S16x128x4x256_S16x4x128x128_S16x4x256x128_1_3_3_2_02_01 none (res_main_while0b_v222 V0) (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3)))))) transposes_S16x4x256x128_S16x128x4x256_0_3_1_2) (mulf (transpose S16x128x4x256 [0, 3, 1, 2] (Host.dotGeneral dot_S16x4x128x256_S16x128x4x128_S16x4x256x128_2_3_3_1_01_02 none (V0 (Proc.devRef .tc main_v71_8)) (res_main_while0b_v220 V0)) transposes_S16x4x256x128_S16x128x4x256_0_3_1_2) (broadcastInDim S16x128x4x256 ![0, 1, 2, 3] bcast_S1x128x4x1_S16x128x4x256_0_1_2_3 (V0 (Proc.devRef .tc main_v71_4))))) : (Proc.devRef .tc main_while0b_call4_v0 : DevRef τ sig).ty.Contents (Elt F)) = Cert.ReferenceIdeal.Step.b35 j s := by
  unfold Cert.ReferenceIdeal.Step.b35
  rw [← value_28 h]
  try rfl
set_option maxRecDepth 8192 in
/-- Value 36 of a trip is value 36 of the step function at the state held. -/
theorem value_36 (h : Holds V0 s j) : (constantI S_ 32 0#32 : (Proc.devRef .tc main_while0b_call4_c : DevRef τ sig).ty.Contents (Elt F)) = Cert.ReferenceIdeal.Step.b36 j s := by
  unfold Cert.ReferenceIdeal.Step.b36
  rfl
set_option maxRecDepth 8192 in
/-- Value 37 of a trip is value 37 of the step function at the state held. -/
theorem value_37 (h : Holds V0 s j) : (constantI S_ 32 0#32 : (Proc.devRef .tc main_while0b_call4_c_0 : DevRef τ sig).ty.Contents (Elt F)) = Cert.ReferenceIdeal.Step.b37 j s := by
  unfold Cert.ReferenceIdeal.Step.b37
  rfl
set_option maxRecDepth 8192 in
/-- Value 38 of a trip is value 38 of the step function at the state held. -/
theorem value_38 (h : Holds V0 s j) : (constantI S_ 32 0#32 : (Proc.devRef .tc main_while0b_call4_c_1 : DevRef τ sig).ty.Contents (Elt F)) = Cert.ReferenceIdeal.Step.b38 j s := by
  unfold Cert.ReferenceIdeal.Step.b38
  rfl
set_option maxRecDepth 8192 in
/-- Value 39 of a trip is value 39 of the step function at the state held. -/
theorem value_39 (h : Holds V0 s j) : (constantI S_ 32 0#32 : (Proc.devRef .tc main_while0b_call4_c_2 : DevRef τ sig).ty.Contents (Elt F)) = Cert.ReferenceIdeal.Step.b39 j s := by
  unfold Cert.ReferenceIdeal.Step.b39
  rfl
set_option maxRecDepth 8192 in
/-- Value 40 of a trip is value 40 of the step function at the state held. -/
theorem value_40 (h : Holds V0 s j) : (Host.dynamicUpdateSlice (V0 (Proc.devRef .tc main_v71_9)) (broadcastInDim S1x16x128x4x256 ![1, 2, 3, 4] bcast_S16x128x4x256_S1x16x128x4x256_1_2_3_4 (addf (transpose S16x128x4x256 [0, 3, 1, 2] (Host.dotGeneral dot_S16x128x4x256_S16x4x128x128_S16x4x256x128_1_3_3_2_02_01 none (res_main_while0b_v222 V0) (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3)))))) transposes_S16x4x256x128_S16x128x4x256_0_3_1_2) (mulf (transpose S16x128x4x256 [0, 3, 1, 2] (Host.dotGeneral dot_S16x4x128x256_S16x128x4x128_S16x4x256x128_2_3_3_1_01_02 none (V0 (Proc.devRef .tc main_v71_8)) (res_main_while0b_v220 V0)) transposes_S16x4x256x128_S16x128x4x256_0_3_1_2) (broadcastInDim S16x128x4x256 ![0, 1, 2, 3] bcast_S1x128x4x1_S16x128x4x256_0_1_2_3 (V0 (Proc.devRef .tc main_v71_4)))))) (fun k => (((![V0 (Proc.devRef .tc main_v71_7), constantI S_ 32 0#32, constantI S_ 32 0#32, constantI S_ 32 0#32, constantI S_ 32 0#32] : Fin 5 → (⟨S_, .i32⟩ : BufTy).Contents (Elt F))) k (Shape.Idx.first h_S_)).toInt) updateFits_S16x16x128x4x256_S1x16x128x4x256 : (Proc.devRef .tc main_while0b_v240 : DevRef τ sig).ty.Contents (Elt F)) = Cert.ReferenceIdeal.Step.b40 j s := by
  unfold Cert.ReferenceIdeal.Step.b40
  rw [← value_35 h, ← value_36 h, ← value_37 h, ← value_38 h, ← value_39 h, h.f_9, h.n_7]
  try rfl

/-! One trip's step of the carried values is `step`, field by field; a counter steps to the next number. -/

/-- A trip's carried state of the retention is the step function's. -/
theorem step_8 (h : Holds V0 s j) : step_main_v71_8 V0 = (step j s).main_v71_8 := by
  unfold step_main_v71_8 Cert.ReferenceIdeal.Step.step
  show id (addf (mulf (broadcastInDim S16x4x128x256 ![0, 1, 2, 3] bcast_S1x4x1x1_S16x4x128x256_0_1_2_3 (V0 (Proc.devRef .tc main_v71_5))) (V0 (Proc.devRef .tc main_v71_8))) (Host.dotGeneral dot_S16x128x4x128_S16x128x4x256_S16x4x128x256_1_1_3_3_02_02 none (mulf (res_main_while0b_v221 V0) (broadcastInDim S16x128x4x128 ![0, 1, 2, 3] bcast_S1x128x4x1_S16x128x4x128_0_1_2_3 (V0 (Proc.devRef .tc main_v71_6)))) (res_main_while0b_v222 V0))) = _
  rw [value_34 h]
  try rfl
/-- A trip's collected outputs are the step function's. -/
theorem step_9 (h : Holds V0 s j) : step_main_v71_9 V0 = (step j s).main_v71_9 := by
  unfold step_main_v71_9 Cert.ReferenceIdeal.Step.step
  show id (Host.dynamicUpdateSlice (V0 (Proc.devRef .tc main_v71_9)) (broadcastInDim S1x16x128x4x256 ![1, 2, 3, 4] bcast_S16x128x4x256_S1x16x128x4x256_1_2_3_4 (addf (transpose S16x128x4x256 [0, 3, 1, 2] (Host.dotGeneral dot_S16x128x4x256_S16x4x128x128_S16x4x256x128_1_3_3_2_02_01 none (res_main_while0b_v222 V0) (mulf (Host.dotGeneral dot_S16x128x4x128_S16x128x4x128_S16x4x128x128_3_3_1_1_02_02 none (res_main_while0b_v220 V0) (res_main_while0b_v221 V0)) (broadcastInDim S16x4x128x128 ![0, 1, 2, 3] bcast_S1x4x128x128_S16x4x128x128_0_1_2_3 (broadcastInDim S1x4x128x128 ![1, 2, 3] bcast_S4x128x128_S1x4x128x128_1_2_3 (V0 (Proc.devRef .tc main_v71_3)))))) transposes_S16x4x256x128_S16x128x4x256_0_3_1_2) (mulf (transpose S16x128x4x256 [0, 3, 1, 2] (Host.dotGeneral dot_S16x4x128x256_S16x128x4x128_S16x4x256x128_2_3_3_1_01_02 none (V0 (Proc.devRef .tc main_v71_8)) (res_main_while0b_v220 V0)) transposes_S16x4x256x128_S16x128x4x256_0_3_1_2) (broadcastInDim S16x128x4x256 ![0, 1, 2, 3] bcast_S1x128x4x1_S16x128x4x256_0_1_2_3 (V0 (Proc.devRef .tc main_v71_4)))))) (fun k => (((![V0 (Proc.devRef .tc main_v71_7), constantI S_ 32 0#32, constantI S_ 32 0#32, constantI S_ 32 0#32, constantI S_ 32 0#32] : Fin 5 → (⟨S_, .i32⟩ : BufTy).Contents (Elt F))) k (Shape.Idx.first h_S_)).toInt) updateFits_S16x16x128x4x256_S1x16x128x4x256) = _
  exact value_40 h
/-- A trip's counter goes up by one. -/
theorem step_7 (h : Holds V0 s j) : step_main_v71_7 V0 = constantI S_ 32 (BitVec.ofNat 32 (j + 1)) := by
  unfold step_main_v71_7
  rw [h.n_7]
  funext i
  show BitVec.ofNat 32 j + 1#32 = BitVec.ofNat 32 (j + 1)
  simp only [BitVec.ofNat_add]

set_option maxRecDepth 8192 in
/-- What the operations after the loop leave is the result as a function of the state held and of the arguments. -/
theorem out_main_v219_holds (h : Holds V0 s j) {x_main_arg0 : (⟨S32768x5888, .bf16⟩ : BufTy).Contents (Elt F)} (h_main_arg0 : V0 (Proc.devRef .tc main_arg0) = x_main_arg0) {x_main_arg1 : (⟨S32768x1024, .f32⟩ : BufTy).Contents (Elt F)} (h_main_arg1 : V0 (Proc.devRef .tc main_arg1) = x_main_arg1) {x_main_arg2 : (⟨S8, .f32⟩ : BufTy).Contents (Elt F)} (h_main_arg2 : V0 (Proc.devRef .tc main_arg2) = x_main_arg2) {x_main_arg3 : (⟨S1024, .f32⟩ : BufTy).Contents (Elt F)} (h_main_arg3 : V0 (Proc.devRef .tc main_arg3) = x_main_arg3) {x_main_arg4 : (⟨S512x1024, .f32⟩ : BufTy).Contents (Elt F)} (h_main_arg4 : V0 (Proc.devRef .tc main_arg4) = x_main_arg4) {x_main_arg5 : (⟨S1024x1024, .f32⟩ : BufTy).Contents (Elt F)} (h_main_arg5 : V0 (Proc.devRef .tc main_arg5) = x_main_arg5) {x_main_arg6 : (⟨S1024x1024, .f32⟩ : BufTy).Contents (Elt F)} (h_main_arg6 : V0 (Proc.devRef .tc main_arg6) = x_main_arg6) : out_main_v219 V0 = Cert.ReferenceIdeal.Step.R_main_v219 s x_main_arg0 x_main_arg1 x_main_arg2 x_main_arg3 x_main_arg4 x_main_arg5 x_main_arg6 := by
  unfold out_main_v219 Cert.ReferenceIdeal.Step.R_main_v219
  rw [h.f_9, h_main_arg0, h_main_arg1, h_main_arg2, h_main_arg3, h_main_arg4, h_main_arg5, h_main_arg6]
  try rfl

/-- One trip keeps the valuation holding: `step` of the state, the same set-up values, the next number. -/
theorem holds_step (h : Holds V0 s j) : Holds (STEP V0) (step j s) (j + 1) where
  f_8 := (STEP_main_v71_8 V0).trans (step_8 h)
  f_9 := (STEP_main_v71_9 V0).trans (step_9 h)
  n_7 := (STEP_main_v71_7 V0).trans (step_7 h)
  k_3 := (STEP_main_v71_3 V0).trans h.k_3
  k_4 := (STEP_main_v71_4 V0).trans h.k_4
  k_5 := (STEP_main_v71_5 V0).trans h.k_5
  k_6 := (STEP_main_v71_6 V0).trans h.k_6
  f_0 := (STEP_main_v71_0 V0).trans h.f_0
  f_1 := (STEP_main_v71_1 V0).trans h.f_1
  f_2 := (STEP_main_v71_2 V0).trans h.f_2

/-- The state the first trip starts from, of the memory the run starts from. -/
abbrev initState (m : (ℓ : Loc nD τ sig) → Buf (Elt F) ℓ) (c : Dev nD) : State F :=
  init (m ((c.tc : Thread nD τ).loc main_arg0))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- Every weakly fair execution of the reference terminates with its result computed from state number 16 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v219) = Cert.ReferenceIdeal.Step.R_main_v219 (it c 16) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hk := holds_iter m c (it c) (h0 c) (hs c) 16
    ⟨(h c).1.trans (out_main_v219_holds hk (iter_main_arg0 m c 16) (iter_main_arg1 m c 16) (iter_main_arg2 m c 16) (iter_main_arg3 m c 16) (iter_main_arg4 m c 16) (iter_main_arg5 m c 16) (iter_main_arg6 m c 16)), (h c).2.1, (h c).2.2.1, (h c).2.2.2.1, (h c).2.2.2.2.1, (h c).2.2.2.2.2.1, (h c).2.2.2.2.2.2.1, (h c).2.2.2.2.2.2.2⟩) (Value.run m ρ)

end Cert.Proof.Mix.Loop

end
-- ==== Proof.MixClaim.lean ====
/-
  The mixer: kernel and reference end with equal results when queries and keys are real numbers and no sink is plus
  infinity.
-/
module

public import proofs.«01_k».proof.Defs
public import proofs.«01_k».proof.Proof.MixArray
public import proofs.«01_k».proof.Proof.MixRetention
public import proofs.«01_k».proof.Proof.MixRefTail
public import proofs.«01_k».proof.Proof.MixFinite
public import proofs.«01_k».proof.Proof.RefLoop
public import proofs.«01_k».proof.Proof.Gen.KernelIdeal.Value

@[expose] public section

set_option maxRecDepth 16384

noncomputable section

namespace Cert.Proof.Mix

open Idealize.ShloMosaic Idealize.SL.Sem

variable (p : FVec Ideal Cert.KernelIdeal.S32768x5888 .bf16) (x : FVec Ideal Cert.KernelIdeal.S32768x1024 .f32)
  (sk : FVec Ideal Cert.KernelIdeal.S8 .f32) (g : FVec Ideal Cert.KernelIdeal.S1024 .f32) (wa : FVec Ideal Cert.KernelIdeal.S512x1024 .f32)
  (wr wo : FVec Ideal Cert.KernelIdeal.S1024x1024 .f32)

/-- The reference's result is the same function of the arguments as the kernel's. -/
theorem ref_eq (hP : ∀ (r : Fin 32768) (c : Fin 5888), c.val < 640 → ∃ x : ℝ, p (ix2 r c) = x) (hsk : ∀ h : Fin 8, sk (ix1 h) ≠ ⊤) :
    Cert.ReferenceIdeal.Step.R_main_v219 (F := Ideal) (Ref.iter p 16) p x sk g wa wr wo = mixed p x sk g wa wr wo := by
  funext y
  idx_vars y
  rw [Ref.result_eq]
  have hr : y0 = rowAt ⟨y0.val / 2048, by omega⟩ ⟨y0.val % 2048 / 128, by omega⟩ ⟨y0.val % 128, by omega⟩ := Fin.ext (by dsimp only [rowAt]; omega)
  have e := Ref.mixer_at (Ref.iter p 16).main_v71_9 p g x sk wa wr wo (fun b n i h v => Ref.loop_out p b n i h v) hP hsk
    ⟨y0.val / 2048, by omega⟩ ⟨y0.val % 2048 / 128, by omega⟩ ⟨y0.val % 128, by omega⟩ y1
  rw [← hr] at e
  exact e

/-- The mixer's kernel and its reference, idealized, end with equal results. -/
theorem algebraic : Cert.algebraic_KernelIdeal_ReferenceIdeal_pre_finite (hKernelIdeal := Cert.KernelIdeal.Gen.facts)
    (hReferenceIdeal := Cert.ReferenceIdeal.Gen.facts) (hPre_finite := finite_facts) := by
  intro m g m' g' hpre h
  refine ⟨fun c => (Cert.KernelIdeal.Gen.dats m 0 c).arrAt 14 Cert.KernelIdeal.cfg0.N, Cert.KernelIdeal.Value.run_blocks m g, ?_⟩
  refine (θ_run _ _ _).mono (fun r hr c => ⟨(hr c).1.trans ?_, (hr c).2⟩)
    (Loop.run_iter (F := Ideal) m' g' (fun c => Ref.iter (m' ((c.tc : Thread Cert.ReferenceIdeal.nD Cert.ReferenceIdeal.τ).loc Cert.ReferenceIdeal.main_arg0)))
      (fun _ => rfl) (fun _ _ => rfl))
  obtain ⟨h0, h1, h2, h3, h4, h5, h6⟩ := h c
  refine Eq.trans ?_ (final m c).symm
  rw [h0, h1, h2, h3, h4, h5, h6]
  haveI := finite_facts
  exact ref_eq _ _ _ _ _ _ _ (finite_rows _ _ _ _ _ _ _ (hpre c).1) (finite_sinks _ _ _ _ _ _ _ (hpre c).2)

end Cert.Proof.Mix

end
-- ==== Proof.lean ====
/-
  The proof of `Cert.Claim`: for each of the three calls of one layer the frames of the kernel, of its idealized form and of its
  reference, and the values: idealized kernel and idealized reference end with equal results.
-/
module

public import proofs.«01_k».proof.Defs
public import proofs.«01_k».proof.Proof.Frames
public import proofs.«01_k».proof.Proof.InClaim
public import proofs.«01_k».proof.Proof.FfnClaim
public import proofs.«01_k».proof.Proof.MixClaim

@[expose] public section

noncomputable section

namespace Cert.Proof

open Idealize.ShloMosaic Idealize.SL.Sem

/-- Every claim of the certificate: the side conditions of the programs, the frames, that the named constant keeps its value, and the
    equal results of the three calls. -/
theorem claim : Cert.Claim :=
  ⟨Cert.Kernel.Gen.facts, Cert.KernelIdeal.Gen.facts, Cert.ReferenceIdeal.Gen.facts, Cert.InKernel.Gen.facts,
    Cert.InKernelIdeal.Gen.facts, Cert.InReferenceIdeal.Gen.facts, Cert.FfnKernel.Gen.facts, Cert.FfnKernelIdeal.Gen.facts,
    Cert.FfnReferenceIdeal.Gen.facts, Mix.finite_facts,
    Frames.mixer, Frames.mixerIdeal, Frames.mixerIdealFinite, Frames.mixerReference, Frames.mixerReferenceFinite,
    Frames.input, Frames.inputIdeal, Frames.inputReference, Frames.ffn, Frames.ffnIdeal, Frames.ffnReference,
    IdealRules.named_const.statement Cert.KernelIdeal.κ "mask" .f32 0xF149F2CA#32 ⊥ rfl,
    Mix.algebraic, trivial, In.algebraic, trivial, Ffn.algebraic⟩

end Cert.Proof

end
